-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_codebooks [hPre_finite_codebooks : Cert.Pre_finite_codebooks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_codebooks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_codebooks [hPre_finite_codebooks : Cert.Pre_finite_codebooks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_codebooks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_codebooks [hKernelIdeal : Cert.KernelIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_codebooks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_codebooks [hReferenceIdeal : Cert.ReferenceIdeal.Facts] [hPre_finite_codebooks : Cert.Pre_finite_codebooks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_codebooks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_codebooks [hKernelIdeal : Cert.KernelIdeal.Facts] [hReferenceIdeal : Cert.ReferenceIdeal.Facts] [hPre_finite_codebooks : Cert.Pre_finite_codebooks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_codebooks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v62) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_codebooks : Cert.Pre_finite_codebooks.Facts),
    quiescent_Kernel (hKernel := hKernel)
    ∧ quiescent_KernelIdeal (hKernelIdeal := hKernelIdeal)
    ∧ quiescent_KernelIdeal_pre_finite_codebooks (hKernelIdeal := hKernelIdeal) (hPre_finite_codebooks := hPre_finite_codebooks)
    ∧ quiescent_ReferenceIdeal (hReferenceIdeal := hReferenceIdeal)
    ∧ quiescent_ReferenceIdeal_pre_finite_codebooks (hReferenceIdeal := hReferenceIdeal) (hPre_finite_codebooks := hPre_finite_codebooks)
    ∧ preserves_Kernel_KernelIdeal
    ∧ algebraic_KernelIdeal_ReferenceIdeal_pre_finite_codebooks (hKernelIdeal := hKernelIdeal) (hReferenceIdeal := hReferenceIdeal) (hPre_finite_codebooks := hPre_finite_codebooks)
-- ==== Pre_finite_codebooks.lean ====
abbrev S1x2x4x64x64 : Shape := ⟨5, ![1, 2, 4, 64, 64]⟩
abbrev S2x8192x4 : Shape := ⟨3, ![2, 8192, 4]⟩
abbrev S_ : Shape := ⟨0, ![]⟩

class Facts : Prop where
  bcast_S_S2x8192x4 : S_.BroadcastsInDim S2x8192x4 (![] : Fin 0 → Fin S2x8192x4.rank)

variable [Facts]

def fn {F : FTy → Type} [FloatOps F] (main_arg0 : FVec F S1x2x4x64x64 .f32) (main_arg1 : FVec F S2x8192x4 .f32) : IVec S2x8192x4 1 :=
  let main_v0 : FVec F S2x8192x4 .f32 := Host.absf main_arg1
  let main_cst : FVec F S_ .f32 := constant S_ .f32 0x7F800000#32
  let main_v1 : FVec F S2x8192x4 .f32 := broadcastInDim S2x8192x4 ![] bcast_S_S2x8192x4 main_cst
  let main_v2 : IVec S2x8192x4 1 := cmpf .olt main_v0 main_v1
  main_v2
-- ==== Kernel.lean ====
abbrev S1x2x4x64x64 : Shape := ⟨5, ![1, 2, 4, 64, 64]⟩
abbrev S2x8192x4 : Shape := ⟨3, ![2, 8192, 4]⟩
abbrev S1x2x64x64x4 : Shape := ⟨5, ![1, 2, 64, 64, 4]⟩
abbrev S8192x4 : Shape := ⟨2, ![8192, 4]⟩
abbrev S1x8192x4 : Shape := ⟨3, ![1, 8192, 4]⟩
abbrev S_ : Shape := ⟨0, ![]⟩
abbrev S8192 : Shape := ⟨1, ![8192]⟩
abbrev S8192x1 : Shape := ⟨2, ![8192, 1]⟩
abbrev S4x8192 : Shape := ⟨2, ![4, 8192]⟩
abbrev S8192x8192 : Shape := ⟨2, ![8192, 8192]⟩
abbrev S1x8192 : Shape := ⟨2, ![1, 8192]⟩
abbrev S1 : Shape := ⟨1, ![1]⟩
abbrev S1x1 : Shape := ⟨2, ![1, 1]⟩
abbrev S2x128x64x4 : Shape := ⟨4, ![2, 128, 64, 4]⟩
abbrev S2x64x4x128 : Shape := ⟨4, ![2, 64, 4, 128]⟩
abbrev S2x64x512 : Shape := ⟨3, ![2, 64, 512]⟩
abbrev S16x1x1 : Shape := ⟨3, ![16, 1, 1]⟩
abbrev S512x4 : Shape := ⟨2, ![512, 4]⟩
abbrev S512x1 : Shape := ⟨2, ![512, 1]⟩
abbrev S1x1x1 : Shape := ⟨3, ![1, 1, 1]⟩
abbrev S512x64 : Shape := ⟨2, ![512, 64]⟩
abbrev S512x128 : Shape := ⟨2, ![512, 128]⟩
abbrev S1x64x512 : Shape := ⟨3, ![1, 64, 512]⟩
abbrev S64x512 : Shape := ⟨2, ![64, 512]⟩
abbrev S512x512 : Shape := ⟨2, ![512, 512]⟩
abbrev S512 : Shape := ⟨1, ![512]⟩
abbrev S1x512x4 : Shape := ⟨3, ![1, 512, 4]⟩
abbrev S1x2x64x64 : Shape := ⟨4, ![1, 2, 64, 64]⟩

abbrev nBuf : Space → Nat
  | .hbm => 130
  | .vmem => 12
  | .smem => 0
  | _ => 0

abbrev hbmTy0_0 (i : Nat) : BufTy := match i % 128 with
  | 0 => ⟨S1x2x4x64x64, .f32⟩
  | 1 => ⟨S2x8192x4, .f32⟩
  | 2 => ⟨S1x2x64x64x4, .f32⟩
  | 3 => ⟨S8192x4, .f32⟩
  | 4 => ⟨S1x8192x4, .f32⟩
  | 5 => ⟨S8192x4, .f32⟩
  | 6 => ⟨S8192x4, .f32⟩
  | 7 => ⟨S_, .f32⟩
  | 8 => ⟨S8192, .f32⟩
  | 9 => ⟨S8192x1, .f32⟩
  | 10 => ⟨S_, .f32⟩
  | 11 => ⟨S8192x4, .f32⟩
  | 12 => ⟨S8192x4, .f32⟩
  | 13 => ⟨S4x8192, .f32⟩
  | 14 => ⟨S8192x8192, .f32⟩
  | 15 => ⟨S8192x8192, .f32⟩
  | 16 => ⟨S8192x8192, .f32⟩
  | 17 => ⟨S8192x4, .f32⟩
  | 18 => ⟨S_, .f32⟩
  | 19 => ⟨S8192, .f32⟩
  | 20 => ⟨S1x8192, .f32⟩
  | 21 => ⟨S8192x8192, .f32⟩
  | 22 => ⟨S8192x8192, .f32⟩
  | 23 => ⟨S8192x8192, .i32⟩
  | 24 => ⟨S_, .f32⟩
  | 25 => ⟨S_, .i32⟩
  | 26 => ⟨S8192, .f32⟩
  | 27 => ⟨S8192, .i32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S1, .i32⟩
  | 37 => ⟨S_, .i32⟩
  | 38 => ⟨S8192x1, .i32⟩
  | 39 => ⟨S8192x1, .i1⟩
  | 40 => ⟨S1x1, .i32⟩
  | 41 => ⟨S8192x1, .i32⟩
  | 42 => ⟨S8192x1, .i1⟩
  | 43 => ⟨S8192x1, .i1⟩
  | 44 => ⟨S_, .i1⟩
  | 45 => ⟨S8192, .i1⟩
  | 46 => ⟨S8192x4, .f32⟩
  | 47 => ⟨S8192x4, .i1⟩
  | 48 => ⟨S_, .f32⟩
  | 49 => ⟨S8192x4, .f32⟩
  | 50 => ⟨S8192x4, .f32⟩
  | 51 => ⟨S8192x4, .f32⟩
  | 52 => ⟨S1x8192x4, .f32⟩
  | 53 => ⟨S8192x4, .f32⟩
  | 54 => ⟨S8192x4, .f32⟩
  | 55 => ⟨S_, .f32⟩
  | 56 => ⟨S8192, .f32⟩
  | 57 => ⟨S8192x1, .f32⟩
  | 58 => ⟨S_, .f32⟩
  | 59 => ⟨S8192x4, .f32⟩
  | 60 => ⟨S8192x4, .f32⟩
  | 61 => ⟨S4x8192, .f32⟩
  | 62 => ⟨S8192x8192, .f32⟩
  | 63 => ⟨S8192x8192, .f32⟩
  | 64 => ⟨S8192x8192, .f32⟩
  | 65 => ⟨S8192x4, .f32⟩
  | 66 => ⟨S_, .f32⟩
  | 67 => ⟨S8192, .f32⟩
  | 68 => ⟨S1x8192, .f32⟩
  | 69 => ⟨S8192x8192, .f32⟩
  | 70 => ⟨S8192x8192, .f32⟩
  | 71 => ⟨S8192x8192, .i32⟩
  | 72 => ⟨S_, .f32⟩
  | 73 => ⟨S_, .i32⟩
  | 74 => ⟨S8192, .f32⟩
  | 75 => ⟨S8192, .i32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S1, .i32⟩
  | 85 => ⟨S_, .i32⟩
  | 86 => ⟨S8192x1, .i32⟩
  | 87 => ⟨S8192x1, .i1⟩
  | 88 => ⟨S1x1, .i32⟩
  | 89 => ⟨S8192x1, .i32⟩
  | 90 => ⟨S8192x1, .i1⟩
  | 91 => ⟨S8192x1, .i1⟩
  | 92 => ⟨S_, .i1⟩
  | 93 => ⟨S8192, .i1⟩
  | 94 => ⟨S8192x4, .f32⟩
  | 95 => ⟨S8192x4, .i1⟩
  | 96 => ⟨S_, .f32⟩
  | 97 => ⟨S8192x4, .f32⟩
  | 98 => ⟨S8192x4, .f32⟩
  | 99 => ⟨S8192x4, .f32⟩
  | 100 => ⟨S1x2x4x64x64, .f32⟩
  | 101 => ⟨S2x8192x4, .f32⟩
  | 102 => ⟨S1x2x64x64x4, .f32⟩
  | 103 => ⟨S8192x4, .f32⟩
  | 104 => ⟨S2x128x64x4, .f32⟩
  | 105 => ⟨S2x64x4x128, .f32⟩
  | 106 => ⟨S2x64x512, .f32⟩
  | 107 => ⟨S2x64x512, .bf16⟩
  | 108 => ⟨S2x64x512, .f32⟩
  | 109 => ⟨S2x64x512, .f32⟩
  | 110 => ⟨S2x64x512, .bf16⟩
  | 111 => ⟨S8192x1, .i32⟩
  | 112 => ⟨S8192x1, .i32⟩
  | 113 => ⟨S8192x4, .f32⟩
  | 114 => ⟨S16x1x1, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S8192x4, .f32⟩
  | 122 => ⟨S_, .f32⟩
  | 123 => ⟨S_, .f32⟩
  | 124 => ⟨S_, .f32⟩
  | 125 => ⟨S_, .f32⟩
  | 126 => ⟨S_, .f32⟩
  | 127 => ⟨S1x2x64x64x4, .f32⟩
  | _ => ⟨S1x2x4x64x64, .f32⟩

abbrev hbmTy0_1 (i : Nat) : BufTy := match i % 128 with
  | 0 => ⟨S1x2x4x64x64, .f32⟩
  | 1 => ⟨S1x2x64x64, .i32⟩
  | _ => ⟨S1x2x4x64x64, .f32⟩

abbrev hbmTy (i : Nat) : BufTy := match i / 128 with
  | 0 => hbmTy0_0 i
  | 1 => hbmTy0_1 i
  | _ => ⟨S1x2x4x64x64, .f32⟩

abbrev bufTy : (tb : Table) → Fin (tcTables nBuf tb) → BufTy
  | .hbm, ⟨i, _⟩ => hbmTy i
  | .local _ .vmem, ⟨0, _⟩ => ⟨S512x4, .f32⟩
  | .local _ .vmem, ⟨1, _⟩ => ⟨S512x4, .f32⟩
  | .local _ .vmem, ⟨2, _⟩ => ⟨S2x64x512, .bf16⟩
  | .local _ .vmem, ⟨3, _⟩ => ⟨S2x64x512, .bf16⟩
  | .local _ .vmem, ⟨4, _⟩ => ⟨S512x1, .i32⟩
  | .local _ .vmem, ⟨5, _⟩ => ⟨S512x1, .i32⟩
  | .local _ .vmem, ⟨6, _⟩ => ⟨S512x1, .i32⟩
  | .local _ .vmem, ⟨7, _⟩ => ⟨S512x1, .i32⟩
  | .local _ .vmem, ⟨8, _⟩ => ⟨S512x4, .f32⟩
  | .local _ .vmem, ⟨9, _⟩ => ⟨S512x4, .f32⟩
  | .local _ .vmem, ⟨10, _⟩ => ⟨S1x1x1, .f32⟩
  | .local _ .vmem, ⟨11, _⟩ => ⟨S1x1x1, .f32⟩
  | _, _ => ⟨S1x2x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v18 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_call2_v0 : Ref sig .tc := ⟨.hbm, 71, rfl⟩
abbrev main_call2_cst : Ref sig .tc := ⟨.hbm, 72, rfl⟩
abbrev main_call2_c : Ref sig .tc := ⟨.hbm, 73, rfl⟩
abbrev main_call2_v1_0 : Ref sig .tc := ⟨.hbm, 74, rfl⟩
abbrev main_v37 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v38 : Ref sig .tc := ⟨.hbm, 98, rfl⟩
abbrev main_v39 : Ref sig .tc := ⟨.hbm, 99, rfl⟩
abbrev main_v40_0 : Ref sig .tc := ⟨.hbm, 100, rfl⟩
abbrev main_v40_1 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52_0 : Ref sig .tc := ⟨.hbm, 113, rfl⟩
abbrev main_v52_1 : Ref sig .tc := ⟨.hbm, 114, rfl⟩
abbrev main_cst_5 : Ref sig .tc := ⟨.hbm, 115, rfl⟩
abbrev main_v53 : Ref sig .tc := ⟨.hbm, 116, rfl⟩
abbrev main_cst_6 : Ref sig .tc := ⟨.hbm, 117, rfl⟩
abbrev main_v54 : Ref sig .tc := ⟨.hbm, 118, rfl⟩
abbrev main_cst_7 : Ref sig .tc := ⟨.hbm, 119, rfl⟩
abbrev main_v55 : Ref sig .tc := ⟨.hbm, 120, rfl⟩
abbrev main_v56 : Ref sig .tc := ⟨.hbm, 121, rfl⟩
abbrev main_cst_8 : Ref sig .tc := ⟨.hbm, 122, rfl⟩
abbrev main_v57 : Ref sig .tc := ⟨.hbm, 123, rfl⟩
abbrev main_cst_9 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x2x4x64x64 : Shape := ⟨5, ![1, 2, 4, 64, 64]⟩
abbrev S2x8192x4 : Shape := ⟨3, ![2, 8192, 4]⟩
abbrev S1x2x64x64x4 : Shape := ⟨5, ![1, 2, 64, 64, 4]⟩
abbrev S8192x4 : Shape := ⟨2, ![8192, 4]⟩
abbrev S_ : Shape := ⟨0, ![]⟩
abbrev S1x8192x4 : Shape := ⟨3, ![1, 8192, 4]⟩
abbrev S8192 : Shape := ⟨1, ![8192]⟩
abbrev S8192x1 : Shape := ⟨2, ![8192, 1]⟩
abbrev S4x8192 : Shape := ⟨2, ![4, 8192]⟩
abbrev S8192x8192 : Shape := ⟨2, ![8192, 8192]⟩
abbrev S1x8192 : Shape := ⟨2, ![1, 8192]⟩
abbrev S1 : Shape := ⟨1, ![1]⟩
abbrev S1x1 : Shape := ⟨2, ![1, 1]⟩
abbrev S1x2x64x64 : Shape := ⟨4, ![1, 2, 64, 64]⟩

abbrev nBuf : Space → Nat
  | .hbm => 142
  | .vmem => 0
  | .smem => 0
  | _ => 0

abbrev hbmTy0_0 (i : Nat) : BufTy := match i % 128 with
  | 0 => ⟨S1x2x4x64x64, .f32⟩
  | 1 => ⟨S2x8192x4, .f32⟩
  | 2 => ⟨S1x2x64x64x4, .f32⟩
  | 3 => ⟨S8192x4, .f32⟩
  | 4 => ⟨S_, .f32⟩
  | 5 => ⟨S8192x4, .f32⟩
  | 6 => ⟨S1x8192x4, .f32⟩
  | 7 => ⟨S8192x4, .f32⟩
  | 8 => ⟨S8192x4, .f32⟩
  | 9 => ⟨S_, .f32⟩
  | 10 => ⟨S8192, .f32⟩
  | 11 => ⟨S8192x1, .f32⟩
  | 12 => ⟨S_, .f32⟩
  | 13 => ⟨S8192x4, .f32⟩
  | 14 => ⟨S8192x4, .f32⟩
  | 15 => ⟨S4x8192, .f32⟩
  | 16 => ⟨S8192x8192, .f32⟩
  | 17 => ⟨S8192x8192, .f32⟩
  | 18 => ⟨S8192x8192, .f32⟩
  | 19 => ⟨S8192x4, .f32⟩
  | 20 => ⟨S_, .f32⟩
  | 21 => ⟨S8192, .f32⟩
  | 22 => ⟨S1x8192, .f32⟩
  | 23 => ⟨S8192x8192, .f32⟩
  | 24 => ⟨S8192x8192, .f32⟩
  | 25 => ⟨S8192x8192, .i32⟩
  | 26 => ⟨S_, .f32⟩
  | 27 => ⟨S_, .i32⟩
  | 28 => ⟨S8192, .f32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S1, .i32⟩
  | 39 => ⟨S_, .i32⟩
  | 40 => ⟨S8192x1, .i32⟩
  | 41 => ⟨S8192x1, .i1⟩
  | 42 => ⟨S1x1, .i32⟩
  | 43 => ⟨S8192x1, .i32⟩
  | 44 => ⟨S8192x1, .i1⟩
  | 45 => ⟨S8192x1, .i1⟩
  | 46 => ⟨S_, .i1⟩
  | 47 => ⟨S8192, .i1⟩
  | 48 => ⟨S8192x4, .f32⟩
  | 49 => ⟨S8192x4, .i1⟩
  | 50 => ⟨S_, .f32⟩
  | 51 => ⟨S8192x4, .f32⟩
  | 52 => ⟨S8192x4, .f32⟩
  | 53 => ⟨S8192x4, .f32⟩
  | 54 => ⟨S8192x4, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S8192x4, .f32⟩
  | 64 => ⟨S8192x4, .f32⟩
  | 65 => ⟨S_, .f32⟩
  | 66 => ⟨S_, .f32⟩
  | 67 => ⟨S_, .f32⟩
  | 68 => ⟨S_, .f32⟩
  | 69 => ⟨S_, .f32⟩
  | 70 => ⟨S8192x4, .f32⟩
  | 71 => ⟨S8192x4, .f32⟩
  | 72 => ⟨S1x8192x4, .f32⟩
  | 73 => ⟨S8192x4, .f32⟩
  | 74 => ⟨S8192x4, .f32⟩
  | 75 => ⟨S_, .f32⟩
  | 76 => ⟨S8192, .f32⟩
  | 77 => ⟨S8192x1, .f32⟩
  | 78 => ⟨S_, .f32⟩
  | 79 => ⟨S8192x4, .f32⟩
  | 80 => ⟨S8192x4, .f32⟩
  | 81 => ⟨S4x8192, .f32⟩
  | 82 => ⟨S8192x8192, .f32⟩
  | 83 => ⟨S8192x8192, .f32⟩
  | 84 => ⟨S8192x8192, .f32⟩
  | 85 => ⟨S8192x4, .f32⟩
  | 86 => ⟨S_, .f32⟩
  | 87 => ⟨S8192, .f32⟩
  | 88 => ⟨S1x8192, .f32⟩
  | 89 => ⟨S8192x8192, .f32⟩
  | 90 => ⟨S8192x8192, .f32⟩
  | 91 => ⟨S8192x8192, .i32⟩
  | 92 => ⟨S_, .f32⟩
  | 93 => ⟨S_, .i32⟩
  | 94 => ⟨S8192, .f32⟩
  | 95 => ⟨S8192, .i32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S1, .i32⟩
  | 105 => ⟨S_, .i32⟩
  | 106 => ⟨S8192x1, .i32⟩
  | 107 => ⟨S8192x1, .i1⟩
  | 108 => ⟨S1x1, .i32⟩
  | 109 => ⟨S8192x1, .i32⟩
  | 110 => ⟨S8192x1, .i1⟩
  | 111 => ⟨S8192x1, .i1⟩
  | 112 => ⟨S_, .i1⟩
  | 113 => ⟨S8192, .i1⟩
  | 114 => ⟨S8192x4, .f32⟩
  | 115 => ⟨S8192x4, .i1⟩
  | 116 => ⟨S_, .f32⟩
  | 117 => ⟨S8192x4, .f32⟩
  | 118 => ⟨S8192x4, .f32⟩
  | 119 => ⟨S8192x4, .f32⟩
  | 120 => ⟨S8192x4, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1x2x4x64x64, .f32⟩

abbrev hbmTy0_1 (i : Nat) : BufTy := match i % 128 with
  | 0 => ⟨S8192x4, .f32⟩
  | 1 => ⟨S8192x4, .f32⟩
  | 2 => ⟨S_, .f32⟩
  | 3 => ⟨S_, .f32⟩
  | 4 => ⟨S_, .f32⟩
  | 5 => ⟨S_, .f32⟩
  | 6 => ⟨S_, .f32⟩
  | 7 => ⟨S8192x4, .f32⟩
  | 8 => ⟨S8192x4, .f32⟩
  | 9 => ⟨S8192x4, .f32⟩
  | 10 => ⟨S8192x4, .f32⟩
  | 11 => ⟨S1x2x64x64x4, .f32⟩
  | 12 => ⟨S1x2x4x64x64, .f32⟩
  | 13 => ⟨S1x2x64x64, .i32⟩
  | _ => ⟨S1x2x4x64x64, .f32⟩

abbrev hbmTy (i : Nat) : BufTy := match i / 128 with
  | 0 => hbmTy0_0 i
  | 1 => hbmTy0_1 i
  | _ => ⟨S1x2x4x64x64, .f32⟩

abbrev bufTy : (tb : Table) → Fin (tcTables nBuf tb) → BufTy
  | .hbm, ⟨i, _⟩ => hbmTy i
  | _, _ => ⟨S1x2x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_cst_4 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_cst_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_9 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_11 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_call2_v0 : Ref sig .tc := ⟨.hbm, 91, rfl⟩
abbrev main_call2_cst : Ref sig .tc := ⟨.hbm, 92, rfl⟩
abbrev main_call2_c : Ref sig .tc := ⟨.hbm, 93, rfl⟩
abbrev main_call2_v1_0 : Ref sig .tc := ⟨.hbm, 94, rfl⟩
abbrev main_v50 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_12 : Ref sig .tc := ⟨.hbm, 121, rfl⟩
abbrev main_v54 : Ref sig .tc := ⟨.hbm, 122, rfl⟩
abbrev main_cst_13 : Ref sig .tc := ⟨.hbm, 123, rfl⟩
abbrev main_v55 : Ref sig .tc := ⟨.hbm, 124, rfl⟩
abbrev main_cst_14 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_15 : Ref sig .tc := ⟨.hbm, 130, rfl⟩
abbrev main_v60 : Ref sig .tc := ⟨.hbm, 131, rfl⟩
abbrev main_cst_16 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩

abbrev nD : Nat := 1
abbrev τ : Topo := Topo.v7x

variable {F : FTy → Type} [FloatOps F]
-- ==== Proof.Spec.lean ====
module

public import proofs.«01_k».proof.Defs
public import proofs.«01_k».proof.Proof.Gen.ReferenceIdeal

/-!
Two level residual vector quantisation, as functions of the input and the codebooks over the extended reals. Both programs
choose the codes by the same operations, so these functions are what either program holds between its operations; the
reference's three results are written with them directly.
-/

@[expose] public section

noncomputable section

namespace Cert.Rvq

open Idealize.ShloMosaic
open Cert.ReferenceIdeal Cert.ReferenceIdeal.Facts₀ Cert.ReferenceIdeal.Facts

/-- An array of extended reals of a given shape. -/
abbrev Arr (s : Shape) : Type := FVec Ideal s .f32

/-- An array of 32 bit words of a given shape. -/
abbrev Words (s : Shape) : Type := IVec s 32

/-- The input with its channels last, one row per position. -/
def flat (x : Arr S1x2x4x64x64) : Arr S8192x4 :=
  shapeCast S8192x4 (transpose S1x2x64x64x4 [0, 1, 3, 4, 2] x transposes_S1x2x4x64x64_S1x2x64x64x4_0_1_3_4_2)
    shapeCasts_S1x2x64x64x4_S8192x4

/-- The codebook of the first level. -/
def book0 (cb : Arr S2x8192x4) : Arr S8192x4 :=
  shapeCast S8192x4 (extractStridedSlice S1x8192x4 ![0, 0, 0] cb slices_S2x8192x4_S1x8192x4_0_0_0) shapeCasts_S1x8192x4_S8192x4

/-- The codebook of the second level. -/
def book1 (cb : Arr S2x8192x4) : Arr S8192x4 :=
  shapeCast S8192x4 (extractStridedSlice S1x8192x4 ![1, 0, 0] cb slices_S2x8192x4_S1x8192x4_1_0_0) shapeCasts_S1x8192x4_S8192x4

/-- The sum of squares along each row. -/
def norms (r : Arr S8192x4) : Arr S8192 :=
  Host.reduceAdd (mulf r r) (constant S_ .f32 0x00000000#32) reducesTo_S8192x4_S8192_d1 h_S_

/-- The squared distance of every row of `r` to every code of `c`, expanded: `|r|² - 2 r·c + |c|²`. -/
def dist (r c : Arr S8192x4) : Arr S8192x8192 :=
  addf
    (subf (broadcastInDim S8192x8192 ![0, 1] bcast_S8192x1_S8192x8192_0_1 (broadcastInDim S8192x1 ![0] bcast_S8192_S8192x1_0 (norms r)))
      (Host.dotGeneral dot_S8192x4_S4x8192_S8192x8192_1_0_0_1_n_n none
        (mulf (broadcastInDim S8192x4 ![] bcast_S_S8192x4 (constant S_ .f32 0x40000000#32)) r)
        (transpose S4x8192 [1, 0] c transposes_S8192x4_S4x8192_1_0)))
    (broadcastInDim S8192x8192 ![0, 1] bcast_S1x8192_S8192x8192_0_1 (broadcastInDim S1x8192 ![1] bcast_S8192_S1x8192_1 (norms c)))

/-- The second components of a reduction of pairs. -/
def places {s t u : Shape} {axes : List (Fin s.rank)} {w : Nat}
    (f : Ideal .f32 × BitVec w → Ideal .f32 × BitVec w → Ideal .f32 × BitVec w)
    (x : FVec Ideal s .f32) (y : IVec s w) (ix : FVec Ideal u .f32) (iy : IVec u w) (h : s.ReducesTo axes t) (hu : 0 < u.numel) :
    IVec t w := fun j => (Host.argReduce f x y ix iy h hu j).2

/-- The number of the nearest code of each row: the place of the least distance. -/
def nearest (d : Arr S8192x8192) : Words S8192 :=
  places reducer_argmin_f32_i32 d (iotaInDim S8192x8192 32 1) (constant S_ .f32 0x7F800000#32) (constantI S_ 32 0#32)
    reducesTo_S8192x8192_S8192_d1 h_S_

/-- A negative number counts from the end of the codebook. -/
def fromEnd (i : Words S8192) : Words S8192x1 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- Which numbers lie inside the codebook. -/
def inside (k : Words S8192x1) : IVec S8192 1 :=
  Host.reduce IntOp.andi
    (andi (cmpi .sge k (broadcastInDim S8192x1 ![] bcast_S_S8192x1 (constantI S_ 32 0#32)))
      (cmpi .sle k (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The rows of a codebook at given numbers; a number outside the codebook reads as the fill value. -/
def lookup (c : Arr S8192x4) (i : Words S8192) : Arr S8192x4 :=
  select (broadcastInDim S8192x4 ![0] bcast_S8192_S8192x4_0 (inside (fromEnd i)))
    (Host.gather gather_S8192x4_S8192x1_S8192x4_1_0_n_n_0_1_14 c (fromEnd i))
    (broadcastInDim S8192x4 ![] bcast_S_S8192x4 (constant S_ .f32 0x7FC00000#32))

/-- The codes of the first level. -/
def idx0 (x : Arr S1x2x4x64x64) (cb : Arr S2x8192x4) : Words S8192 := nearest (dist (flat x) (book0 cb))

/-- The first level's quantised rows. -/
def quant0 (x : Arr S1x2x4x64x64) (cb : Arr S2x8192x4) : Arr S8192x4 := lookup (book0 cb) (idx0 x cb)

/-- What the first level leaves over. -/
def resid (x : Arr S1x2x4x64x64) (cb : Arr S2x8192x4) : Arr S8192x4 := subf (flat x) (quant0 x cb)

/-- The codes of the second level. -/
def idx1 (x : Arr S1x2x4x64x64) (cb : Arr S2x8192x4) : Words S8192 := nearest (dist (resid x cb) (book1 cb))

/-- The second level's quantised rows. -/
def quant1 (x : Arr S1x2x4x64x64) (cb : Arr S2x8192x4) : Arr S8192x4 := lookup (book1 cb) (idx1 x cb)

/-- The mean of the squared differences between quantised rows and what they stand for. -/
def meanSq (q r : Arr S8192x4) : Arr S_ :=
  Host.divf (Host.reduceAdd (mulf (subf q r) (subf q r)) (constant S_ .f32 0x00000000#32) reducesTo_S8192x4_S_d0_1 h_S_)
    (constant S_ .f32 0x47000000#32)

/-- One level's loss added to the loss so far: a quarter of the mean square, then the mean square. -/
def addLoss (l : Arr S_) (q r : Arr S8192x4) : Arr S_ :=
  addf (addf l (mulf (constant S_ .f32 0x3E800000#32) (meanSq q r))) (meanSq q r)

/-- The loss before the first level. -/
def noLoss : Arr S_ := constant S_ .f32 0x00000000#32

/-- The reference's loss. -/
def loss (x : Arr S1x2x4x64x64) (cb : Arr S2x8192x4) : Arr S_ :=
  addLoss (addLoss noLoss (quant0 x cb) (flat x)) (quant1 x cb) (resid x cb)

/-- Rows brought back to the input's layout. -/
def unflat (r : Arr S8192x4) : Arr S1x2x4x64x64 :=
  transpose S1x2x4x64x64 [0, 1, 4, 2, 3] (shapeCast S1x2x64x64x4 r shapeCasts_S8192x4_S1x2x64x64x4)
    transposes_S1x2x64x64x4_S1x2x4x64x64_0_1_4_2_3

/-- The zero array, where the sum of the levels starts. -/
def zeros : Arr S8192x4 := broadcastInDim S8192x4 ![] bcast_S_S8192x4 (constant S_ .f32 0x00000000#32)

/-- The reference's quantised rows: the input plus the difference of the sum of both levels and the input. -/
def rows (x : Arr S1x2x4x64x64) (cb : Arr S2x8192x4) : Arr S8192x4 :=
  addf (flat x)
    (subf (addf (addf zeros (quant0 x cb)) (quant1 x cb)) (flat x))

/-- The codes in the layout of the positions. -/
def codes (i : Words S8192) : Words S1x2x64x64 := shapeCast S1x2x64x64 i shapeCasts_S8192_S1x2x64x64

end Cert.Rvq

end
-- ==== Proof.KHost.lean ====
module

public import proofs.«01_k».proof.Proof.Gen.KernelIdeal.Frame
public import proofs.«01_k».proof.Proof.Spec
public import Idealize.ShloMosaic.Lib.Claim

/-!
What the kernel's host operations leave, before and after its region. Before the region they choose the codes by the same
operations as the reference and lay the codebooks out for the region; after it they sum the loss parts and bring the rows and
the codes to the results' layouts. Each piece of the operation list is read once, over whatever was there before it.
-/

@[expose] public section

noncomputable section

namespace Cert.KHost

open Idealize.ShloMosaic Idealize.ShloMosaic.TcCoe Idealize.SL.Sem
open Cert.KernelIdeal Cert.KernelIdeal.Gen
open Cert.Rvq

/-- Contents of all arrays of one device. -/
abbrev Val := Valuation τ sig (Elt Ideal)

/-- The codebooks laid out for the region: code `64·j + b`, channel `k` at row `b`, lane `128·k + j`. -/
def table (cb : Arr S2x8192x4) : Arr S2x64x512 :=
  shapeCast S2x64x512
    (transpose S2x64x4x128 [0, 2, 3, 1] (shapeCast S2x128x64x4 cb shapeCasts_S2x8192x4_S2x128x64x4) transposes_S2x128x64x4_S2x64x4x128_0_2_3_1)
    shapeCasts_S2x64x4x128_S2x64x512

/-- The table in the narrow format. -/
def high (cb : Arr S2x8192x4) : FVec Ideal S2x64x512 .bf16 := truncf .bf16 (table cb) bitsLt_bf16_f32

/-- What the narrow table leaves over, in the narrow format. -/
def low (cb : Arr S2x8192x4) : FVec Ideal S2x64x512 .bf16 :=
  truncf .bf16 (subf (table cb) (extf .f32 (high cb) bitsLt_bf16_f32)) bitsLt_bf16_f32

/-- The codes as a column. -/
def column (i : Words S8192) : Words S8192x1 := shapeCast S8192x1 i shapeCasts_S8192_S8192x1

/-- The kernel's loss from the loss parts of its region and the second level's quantised rows. -/
def tailLoss (p : Arr S16x1x1) (q : Arr S8192x4) : Arr S_ :=
  addf
    (mulf (constant S_ .f32 0x3FA00000#32)
      (Host.divf (Host.reduceAdd p (constant S_ .f32 0x00000000#32) reducesTo_S16x1x1_S_d0_1_2 h_S_) (constant S_ .f32 0x47000000#32)))
    (mulf (constant S_ .f32 0x00000000#32) (Host.reduceAdd q (constant S_ .f32 0x00000000#32) reducesTo_S8192x4_S_d0_1 h_S_))

/-- After the first piece: the rows, the codebook and the distances of the first level. -/
theorem first_read (V : Val) :
    StableHlo.after hostOps0 V (Proc.devRef .tc main_v1) = flat (V (Proc.devRef .tc main_arg0))
    ∧ StableHlo.after hostOps0 V (Proc.devRef .tc main_v3) = book0 (V (Proc.devRef .tc main_arg1))
    ∧ StableHlo.after hostOps0 V (Proc.devRef .tc main_v17) = dist (flat (V (Proc.devRef .tc main_arg0))) (book0 (V (Proc.devRef .tc main_arg1))) := by
  refine ⟨?_, ?_, ?_⟩ <;> after_results_simp <;> rfl

/-- The first search leaves the nearest code of each row. -/
theorem argmin0_read (V : Val) : StableHlo.after hostOps0_1 V (Proc.devRef .tc main_v18) = nearest (V (Proc.devRef .tc main_v17)) := by
  after_results_simp
  simp only [StableHlo.TRef.ofBuf_toBuf]
  rfl

set_option maxRecDepth 20000 in
/-- The first lookup leaves the codewords of the first codes. -/
theorem take0_read (V : Val) :
    StableHlo.after hostOps0_2 V (Proc.devRef .tc main_v19) = lookup (V (Proc.devRef .tc main_v3)) (V (Proc.devRef .tc main_v18)) := by
  after_results_simp
  simp only [StableHlo.TRef.ofBuf_toBuf]
  rfl

/-- The operations between the searches leave the second codebook and the distances of the remainder to it. -/
theorem mid_read (V : Val) :
    StableHlo.after hostOps0_3 V (Proc.devRef .tc main_v22) = book1 (V (Proc.devRef .tc main_arg1))
    ∧ StableHlo.after hostOps0_3 V (Proc.devRef .tc main_v36)
      = dist (subf (F := Ideal) (s := S8192x4) (φ := .f32) (V (Proc.devRef .tc main_v1)) (V (Proc.devRef .tc main_v19))) (book1 (V (Proc.devRef .tc main_arg1))) := by
  refine ⟨?_, ?_⟩ <;> after_results_simp <;> rfl

/-- The second search leaves the nearest code of each row. -/
theorem argmin1_read (V : Val) : StableHlo.after hostOps0_4 V (Proc.devRef .tc main_v37) = nearest (V (Proc.devRef .tc main_v36)) := by
  after_results_simp
  simp only [StableHlo.TRef.ofBuf_toBuf]
  rfl

set_option maxRecDepth 20000 in
/-- The second lookup leaves the codewords of the second codes. -/
theorem take1_read (V : Val) :
    StableHlo.after hostOps0_5 V (Proc.devRef .tc main_v38) = lookup (V (Proc.devRef .tc main_v22)) (V (Proc.devRef .tc main_v37)) := by
  after_results_simp
  simp only [StableHlo.TRef.ofBuf_toBuf]
  rfl

/-- The last piece before the region: the region's five inputs. -/
theorem last_read (V : Val) :
    StableHlo.after hostOps0_6 V (Proc.devRef .tc main_v42) = flat (V (Proc.devRef .tc main_arg0))
    ∧ StableHlo.after hostOps0_6 V (Proc.devRef .tc main_v46) = high (V (Proc.devRef .tc main_arg1))
    ∧ StableHlo.after hostOps0_6 V (Proc.devRef .tc main_v49) = low (V (Proc.devRef .tc main_arg1))
    ∧ StableHlo.after hostOps0_6 V (Proc.devRef .tc main_v50) = column (V (Proc.devRef .tc main_v18))
    ∧ StableHlo.after hostOps0_6 V (Proc.devRef .tc main_v51) = column (V (Proc.devRef .tc main_v37)) := by
  refine ⟨?_, ?_, ?_, ?_, ?_⟩ <;> after_results_simp <;> rfl

/-- The pieces leave alone what later ones read. -/
theorem kept (V : Val) :
    (∀ r ∈ [main_arg0, main_arg1], StableHlo.after hostOps0 V (Proc.devRef .tc r) = V (Proc.devRef .tc r))
    ∧ (∀ r ∈ [main_arg0, main_arg1, main_v1, main_v3], StableHlo.after hostOps0_1 V (Proc.devRef .tc r) = V (Proc.devRef .tc r))
    ∧ (∀ r ∈ [main_arg0, main_arg1, main_v1, main_v18], StableHlo.after hostOps0_2 V (Proc.devRef .tc r) = V (Proc.devRef .tc r))
    ∧ (∀ r ∈ [main_arg0, main_arg1, main_v18], StableHlo.after hostOps0_3 V (Proc.devRef .tc r) = V (Proc.devRef .tc r))
    ∧ (∀ r ∈ [main_arg0, main_arg1, main_v18, main_v22], StableHlo.after hostOps0_4 V (Proc.devRef .tc r) = V (Proc.devRef .tc r))
    ∧ (∀ r ∈ [main_arg0, main_arg1, main_v18, main_v37], StableHlo.after hostOps0_5 V (Proc.devRef .tc r) = V (Proc.devRef .tc r))
    ∧ (∀ r ∈ [main_v18, main_v38], StableHlo.after hostOps0_6 V (Proc.devRef .tc r) = V (Proc.devRef .tc r)) := by
  simp only [List.forall_mem_cons, List.not_mem_nil, false_implies, implies_true, and_true]
  refine ⟨⟨?_, ?_⟩, ⟨?_, ?_, ?_, ?_⟩, ⟨?_, ?_, ?_, ?_⟩, ⟨?_, ?_, ?_⟩, ⟨?_, ?_, ?_, ?_⟩, ⟨?_, ?_, ?_, ?_⟩, ?_, ?_⟩ <;> after_results_simp

/-- After all operations before the region: its inputs, the codes and the second level's rows, as functions of the arguments. -/
theorem entry_read (V : Val) :
    let W := StableHlo.after (List.flatten [hostOps0, hostOps0_1, hostOps0_2, hostOps0_3, hostOps0_4, hostOps0_5, hostOps0_6]) V
    let x := V (Proc.devRef .tc main_arg0)
    let cb := V (Proc.devRef .tc main_arg1)
    W (Proc.devRef .tc main_v42) = flat x ∧ W (Proc.devRef .tc main_v46) = high cb ∧ W (Proc.devRef .tc main_v49) = low cb
    ∧ W (Proc.devRef .tc main_v50) = column (idx0 x cb) ∧ W (Proc.devRef .tc main_v51) = column (idx1 x cb)
    ∧ W (Proc.devRef .tc main_v18) = idx0 x cb ∧ W (Proc.devRef .tc main_v38) = quant1 x cb := by
  intro W x cb
  have hW : W = StableHlo.after hostOps0_6 (StableHlo.after hostOps0_5 (StableHlo.after hostOps0_4 (StableHlo.after hostOps0_3
      (StableHlo.after hostOps0_2 (StableHlo.after hostOps0_1 (StableHlo.after hostOps0 V)))))) := by
    simp only [W, List.flatten_cons, List.flatten_nil, List.append_nil, StableHlo.after_append]
  rw [hW]
  clear hW W
  obtain ⟨h1, h3, h17⟩ := first_read V
  have k := (kept V).1
  simp only [List.forall_mem_cons, List.not_mem_nil, false_implies, implies_true, and_true] at k
  obtain ⟨a0, a1⟩ := k
  generalize StableHlo.after hostOps0 V = V1 at *
  have h18 := argmin0_read V1
  have k := (kept V1).2.1
  simp only [List.forall_mem_cons, List.not_mem_nil, false_implies, implies_true, and_true] at k
  obtain ⟨b0, b1, b2, b3⟩ := k
  generalize StableHlo.after hostOps0_1 V1 = V2 at *
  have h19 := take0_read V2
  have k := (kept V2).2.2.1
  simp only [List.forall_mem_cons, List.not_mem_nil, false_implies, implies_true, and_true] at k
  obtain ⟨c0, c1, c2, c18⟩ := k
  generalize StableHlo.after hostOps0_2 V2 = V3 at *
  obtain ⟨h22, h36⟩ := mid_read V3
  have k := (kept V3).2.2.2.1
  simp only [List.forall_mem_cons, List.not_mem_nil, false_implies, implies_true, and_true] at k
  obtain ⟨d0, d1, d18⟩ := k
  generalize StableHlo.after hostOps0_3 V3 = V4 at *
  have h37 := argmin1_read V4
  have k := (kept V4).2.2.2.2.1
  simp only [List.forall_mem_cons, List.not_mem_nil, false_implies, implies_true, and_true] at k
  obtain ⟨e0, e1, e18, e22⟩ := k
  generalize StableHlo.after hostOps0_4 V4 = V5 at *
  have h38 := take1_read V5
  have k := (kept V5).2.2.2.2.2.1
  simp only [List.forall_mem_cons, List.not_mem_nil, false_implies, implies_true, and_true] at k
  obtain ⟨f0, f1, f18, f37⟩ := k
  generalize StableHlo.after hostOps0_5 V5 = V6 at *
  obtain ⟨h42, h46, h49, h50, h51⟩ := last_read V6
  have k := (kept V6).2.2.2.2.2.2
  simp only [List.forall_mem_cons, List.not_mem_nil, false_implies, implies_true, and_true] at k
  obtain ⟨g18, g38⟩ := k
  have r0 : V6 (Proc.devRef .tc main_arg0) = x := by rw [f0, e0, d0, c0, b0, a0]
  have r1 : V6 (Proc.devRef .tc main_arg1) = cb := by rw [f1, e1, d1, c1, b1, a1]
  have s1 : V3 (Proc.devRef .tc main_arg1) = cb := by rw [c1, b1, a1]
  have r18 : V6 (Proc.devRef .tc main_v18) = idx0 x cb := by rw [f18, e18, d18, c18, h18, h17]; rfl
  have r19 : V3 (Proc.devRef .tc main_v19) = quant0 x cb := by rw [h19, b3, h3, h18, h17]; rfl
  have r37 : V5 (Proc.devRef .tc main_v37) = idx1 x cb := by rw [h37, h36, r19, s1, c2, b2, h1]; rfl
  have r38 : V6 (Proc.devRef .tc main_v38) = quant1 x cb := by rw [h38, e22, h22, s1, r37]; rfl
  refine ⟨?_, ?_, ?_, ?_, ?_, ?_, ?_⟩
  · rw [h42, r0]
  · rw [h46, r1]
  · rw [h49, r1]
  · rw [h50, r18]
  · rw [h51, f37, r37]
  · rw [g18, r18]
  · rw [g38, r38]

/-- The operations after the region: the three results from the region's two outputs, the codes and the second level's rows. -/
theorem tail_read (V : Val) :
    StableHlo.after hostOps1 V (Proc.devRef .tc main_v61) = unflat (V (Proc.devRef .tc main_v52_0))
    ∧ StableHlo.after hostOps1 V (Proc.devRef .tc main_v59) = tailLoss (V (Proc.devRef .tc main_v52_1)) (V (Proc.devRef .tc main_v38))
    ∧ StableHlo.after hostOps1 V (Proc.devRef .tc main_v62) = codes (V (Proc.devRef .tc main_v18)) := by
  refine ⟨?_, ?_, ?_⟩ <;> after_results_simp <;> rfl

end Cert.KHost

end
-- ==== Proof.Select.lean ====
module

public import proofs.«01_k».proof.Proof.KHost
public import Idealize.ShloMosaic.Lib.Pointwise

/-!
How the region's body looks a code up: the code's low six bits choose a row of the table by a product with rows of zeros and a
one, its high bits choose a lane of each of the four groups of 128 lanes by a mask and a sum. Stated for any two tables, whose
chosen entries the body adds.
-/

@[expose] public section

noncomputable section

namespace Cert.KBody

open Idealize.ShloMosaic
open Cert.KernelIdeal Cert.KernelIdeal.Gen
open Cert.Rvq

/-- Comparing two words for equality gives the bit of the equality. -/
theorem cmpi_eq_word (x y : BitVec 32) : IntOp.cmpi .eq x y = if x = y then 1#1 else 0#1 := by
  by_cases h : x = y
  · simp [IntOp.cmpi, h]
  · have e : (x == y) = false := beq_eq_false_iff_ne.mpr h
    simp only [IntOp.cmpi, e, h, ↓reduceIte]
    rfl

/-- A small number as a word equals a word exactly when it is the word's number. -/
theorem ofNat_eq_iff (n : Nat) (hn : n < 4294967296) (w : BitVec 32) : BitVec.ofNat 32 n = w ↔ n = w.toNat := by
  constructor
  · rintro rfl
    rw [BitVec.toNat_ofNat]
    exact (Nat.mod_eq_of_lt hn).symm
  · rintro rfl
    exact BitVec.ofNat_toNat ..

/-- The low six bits of a word. -/
theorem low_bits (w : BitVec 32) : (IntOp.andi w 63#32).toNat = w.toNat % 64 := by
  show (w &&& 63#32).toNat = _
  rw [BitVec.toNat_and]
  exact Nat.and_two_pow_sub_one_eq_mod w.toNat 6

/-- The bits above them, of a word that is no negative number. -/
theorem high_bits (w : BitVec 32) (hw : w.toNat < 8192) : (IntOp.shrsi .vector w 6#32).toNat = w.toNat / 64 := by
  show (w.sshiftRight 6).toNat = _
  have hm : w.msb = false := by
    rw [BitVec.msb_eq_decide]
    simp only [decide_eq_false_iff_not]
    omega
  rw [BitVec.sshiftRight_eq_of_msb_false hm, BitVec.toNat_ushiftRight, Nat.shiftRight_eq_div_pow]

/-- A bit as a number is one or zero. -/
theorem bit_value (p : Prop) [Decidable p] :
    (FloatOps.sitofp .f32 (BitVec.setWidth 32 (if p then 1#1 else 0#1)) : Ideal .f32) = if p then (1 : EReal) else 0 := by
  split
  · exact (congrArg (fun n : ℤ => ((n : ℝ) : EReal)) (show (BitVec.setWidth 32 1#1).toInt = 1 by decide)).trans (by simp)
  · exact (congrArg (fun n : ℤ => ((n : ℝ) : EReal)) (show (BitVec.setWidth 32 0#1).toInt = 0 by decide)).trans (by simp)

/-- The product with a row of zeros and a one: both tables' entries at the row that the code's low bits choose, added. -/
theorem pay7_apply (i : Words S512x1) (h l : FVec Ideal S1x64x512 .bf16) (r n : Fin 512) :
    k0_pay7 (F := Ideal) i h l (ix2 r n)
      = h (ix3 0 ⟨(i (ix2 r 0)).toNat % 64, Nat.mod_lt _ (by decide)⟩ n) + l (ix3 0 ⟨(i (ix2 r 0)).toNat % 64, Nat.mod_lt _ (by decide)⟩ n) := by
  pointwise [k0_pay7, k0_pay6]
  generalize i (ix2 r 0) = w
  have hb : ∀ x : Fin 64, BitVec.ofNat 32 x.val = IntOp.andi w 63#32 ↔ x = ⟨w.toNat % 64, Nat.mod_lt _ (by decide)⟩ := by
    intro x
    have hx := x.isLt
    rw [ofNat_eq_iff _ (by omega), low_bits, Fin.ext_iff]
  simp only [cmpi_eq_word, bit_value, hb]
  congr 1 <;> simp

/-- The mask: the lane that the code's high bits choose. -/
theorem pay8_apply (i : Words S512x1) (r : Fin 512) (j : Fin 128) (hi : (i (ix2 r 0)).toNat < 8192) :
    k0_pay8 (F := Ideal) i (ix2 r j) = if j = ⟨(i (ix2 r 0)).toNat / 64, by omega⟩ then 1#1 else 0#1 := by
  pointwise [k0_pay8, k0_pay6]
  have hj := j.isLt
  simp only [cmpi_eq_word, ofNat_eq_iff _ (show j.val < 4294967296 by omega), high_bits _ hi, Fin.ext_iff]

/-- A masked sum over the lanes is the entry of the chosen lane. -/
theorem lane_sum (f : Fin 128 → EReal) (k : Fin 128) :
    (∑ x : Fin 128, Scalar.select (if x = k then 1#1 else 0#1) (f x) (0 : EReal)) = f k := by
  have e : ∀ x, Scalar.select (if x = k then 1#1 else 0#1) (f x) (0 : EReal) = if x = k then f x else 0 := by
    intro x
    by_cases h : x = k <;> simp [Scalar.select, h]
  simp [e]

/-- The quantised rows of a block, from its codes and the two tables of one level. -/
def picked (i : Words S512x1) (h l : FVec Ideal S1x64x512 .bf16) : Arr S512x4 :=
  k0_pay12 (F := Ideal) (k0_pay7 i h l) (k0_pay8 (F := Ideal) i) (k0_pay9 i h l) (k0_pay10 i h l) (k0_pay11 i h l)

/-- What the body picks at row `r`, channel `c`: both tables' entries at the code's row and lane, added. -/
theorem picked_apply (i : Words S512x1) (h l : FVec Ideal S1x64x512 .bf16) (r : Fin 512) (c : Fin 4) (hi : (i (ix2 r 0)).toNat < 8192) :
    picked i h l (ix2 r c)
      = h (ix3 0 ⟨(i (ix2 r 0)).toNat % 64, Nat.mod_lt _ (by decide)⟩ ⟨128 * c.val + (i (ix2 r 0)).toNat / 64, by omega⟩)
        + l (ix3 0 ⟨(i (ix2 r 0)).toNat % 64, Nat.mod_lt _ (by decide)⟩ ⟨128 * c.val + (i (ix2 r 0)).toNat / 64, by omega⟩) := by
  unfold picked
  pointwise [k0_pay12, k0_pay11, k0_pay10, k0_pay9]
  simp only [pay8_apply i r _ hi, lane_sum, pay7_apply]
  fin_vals c with hc
  all_goals simp only [hc, Nat.reduceSub, Nat.reduceLT, ↓reduceDIte, Nat.reduceMul, Nat.zero_add]

/-- The second level's quantised rows are formed from its codes and tables as the first level's are. -/
theorem pay1_eq (i : Words S512x1) (h l : FVec Ideal S1x64x512 .bf16) :
    k0_pay1 (F := Ideal) (k0_pay17 (iota .tc S512x64 32 [1] iota_S512x64_d1_w32) i h l)
      (k0_pay18 (F := Ideal) (iota .tc S512x128 32 [1] iota_S512x128_d1_w32) i)
      (k0_pay19 (iota .tc S512x64 32 [1] iota_S512x64_d1_w32) (iota .tc S512x128 32 [1] iota_S512x128_d1_w32) i h l)
      = picked i h l := rfl

/-- The table at row `b`, lane `n`: code `64·(n mod 128) + b`, channel `n / 128`. -/
theorem table_apply (cb : Arr S2x8192x4) (q : Fin 2) (b : Fin 64) (n : Fin 512) :
    KHost.table cb (ix3 q b n) = cb (ix3 q ⟨n.val % 128 * 64 + b.val, by omega⟩ ⟨n.val / 128, by omega⟩) := by
  pointwise [KHost.table]

/-- The two narrow tables of finite codebooks add up to the table. -/
theorem high_add_low (cb : Arr S2x8192x4) (hf : ∀ k, cb k ≠ ⊤ ∧ cb k ≠ ⊥) (q : Fin 2) (b : Fin 64) (n : Fin 512) :
    KHost.high cb (ix3 q b n) + KHost.low cb (ix3 q b n) = KHost.table cb (ix3 q b n) := by
  have e : KHost.low cb (ix3 q b n) = KHost.table cb (ix3 q b n) - KHost.table cb (ix3 q b n) := rfl
  have e' : KHost.high cb (ix3 q b n) = KHost.table cb (ix3 q b n) := rfl
  rw [e, e', table_apply]
  have h := hf (ix3 q ⟨n.val % 128 * 64 + b.val, by omega⟩ ⟨n.val / 128, by omega⟩)
  generalize cb _ = a at h ⊢
  rw [EReal.sub_self h.1 h.2, add_zero]

end Cert.KBody

end
-- ==== Proof.KBlock.lean ====
module

public import proofs.«01_k».proof.Proof.Select
public import Idealize.ShloMosaic.Lib.Pipeline.Value

/-!
What one block of the region computes, from its rows, its codes and the two tables: the quantised rows, and the block's part of
the loss.
-/

@[expose] public section

noncomputable section

namespace Cert.KBody

open Idealize.ShloMosaic
open Cert.KernelIdeal Cert.KernelIdeal.Gen
open Cert.Rvq

/-- The first level's quantised rows of a block. -/
def pick0 (h l : Vec Ideal S2x64x512 .bf16) (i : Words S512x1) : Arr S512x4 := picked i (View.ld h r0_2) (View.ld l r0_2)

/-- The second level's quantised rows of a block. -/
def pick1 (h l : Vec Ideal S2x64x512 .bf16) (i : Words S512x1) : Arr S512x4 := picked i (View.ld h r0_3) (View.ld l r0_3)

/-- The first level's pick at a row and channel: the narrow and the leftover entry of the row's code, added. -/
theorem pick0_apply (h l : Vec Ideal S2x64x512 .bf16) (i : Words S512x1) (r : Fin 512) (c : Fin 4) (hi : (i (ix2 r 0)).toNat < 8192) :
    pick0 h l i (ix2 r c)
      = h (ix3 0 ⟨(i (ix2 r 0)).toNat % 64, Nat.mod_lt _ (by decide)⟩ ⟨128 * c.val + (i (ix2 r 0)).toNat / 64, by omega⟩)
        + l (ix3 0 ⟨(i (ix2 r 0)).toNat % 64, Nat.mod_lt _ (by decide)⟩ ⟨128 * c.val + (i (ix2 r 0)).toNat / 64, by omega⟩) := by
  unfold pick0
  rw [picked_apply i _ _ r c hi]
  pointwise

/-- The second level's pick at a row and channel: the narrow and the leftover entry of the row's code, added. -/
theorem pick1_apply (h l : Vec Ideal S2x64x512 .bf16) (i : Words S512x1) (r : Fin 512) (c : Fin 4) (hi : (i (ix2 r 0)).toNat < 8192) :
    pick1 h l i (ix2 r c)
      = h (ix3 1 ⟨(i (ix2 r 0)).toNat % 64, Nat.mod_lt _ (by decide)⟩ ⟨128 * c.val + (i (ix2 r 0)).toNat / 64, by omega⟩)
        + l (ix3 1 ⟨(i (ix2 r 0)).toNat % 64, Nat.mod_lt _ (by decide)⟩ ⟨128 * c.val + (i (ix2 r 0)).toNat / 64, by omega⟩) := by
  unfold pick1
  rw [picked_apply i _ _ r c hi]
  pointwise

/-- The origin in two dimensions. -/
theorem zero2 : (![0, 0] : Fin 2 → Nat) = fun _ => 0 := funext fun a => by fin_cases a <;> rfl

/-- The origin in three dimensions. -/
theorem zero3 : (![0, 0, 0] : Fin 3 → Nat) = fun _ => 0 := funext fun a => by fin_cases a <;> rfl

/-- The quantised rows of a block at an index. -/
theorem rows_block (x : Arr S512x4) (h l : Vec Ideal S2x64x512 .bf16) (i k : Words S512x1) (r : Fin 512) (c : Fin 4) :
    out0_5 (F := Ideal) x h l i k (ix2 r c)
      = x (ix2 r c) + ((0 + pick0 h l i (ix2 r c) + pick1 h l k (ix2 r c)) - x (ix2 r c)) := by
  unfold_out out0_5
  rw [View.canon_unit_zero zero2, View.ld_unit_zero zero2, View.ld_unit_zero zero2, View.ld_unit_zero zero2]
  unfold k0_pay2 k0_pay14
  simp only []
  rw [pay1_eq]
  pointwise [k0_pay4, k0_pay5]
  rfl

/-- The block's part of the loss: the squared differences of both levels, summed. -/
theorem loss_block (x : Arr S512x4) (h l : Vec Ideal S2x64x512 .bf16) (i k : Words S512x1) (y : S1x1x1.Idx) :
    out0_6 (F := Ideal) x h l i k y
      = (∑ r : Fin 512, ∑ c : Fin 4, (pick0 h l i (ix2 r c) - x (ix2 r c)) * (pick0 h l i (ix2 r c) - x (ix2 r c)))
        + ∑ r : Fin 512, ∑ c : Fin 4, (pick1 h l k (ix2 r c) - (x (ix2 r c) - pick0 h l i (ix2 r c)))
            * (pick1 h l k (ix2 r c) - (x (ix2 r c) - pick0 h l i (ix2 r c))) := by
  unfold_out out0_6
  rw [View.canon_unit_zero zero3, View.ld_unit_zero zero2, View.ld_unit_zero zero2, View.ld_unit_zero zero2]
  unfold k0_pay3 k0_pay13 k0_pay15
  simp only []
  rw [pay1_eq]
  pointwise [k0_pay4]
  rfl

end Cert.KBody

end
-- ==== Proof.Codes.lean ====
module

public import proofs.«01_k».proof.Proof.Spec
public import Idealize.ShloMosaic.Lib.Pointwise

/-!
The codes are numbers of codewords, and looking a code up reads that codeword: the place of a least distance is a place in the
row of distances, so no code is negative or past the end, and neither the wrapping of negative numbers nor the fill value of
`lookup` comes into play.
-/

@[expose] public section

noncomputable section

namespace Cert.Rvq

open Idealize.ShloMosaic
open Cert.ReferenceIdeal Cert.ReferenceIdeal.Gen

/-- A fold that at every step keeps one of its two arguments keeps a property that the start and all elements have. -/
theorem foldl_keeps {α : Type} (f : α → α → α) (P : α → Prop) (hf : ∀ a b, P a → P b → P (f a b)) (l : List α) (a : α)
    (ha : P a) (hl : ∀ b ∈ l, P b) : P (l.foldl f a) := by
  induction l generalizing a with
  | nil => exact ha
  | cons b l ih =>
    exact ih _ (hf _ _ ha (hl b List.mem_cons_self)) fun c hc => hl c (List.mem_cons_of_mem _ hc)

/-- A reduction of pairs that at every step keeps one of its arguments' second components keeps what all of them have. -/
theorem places_keep {s t u : Shape} {axes : List (Fin s.rank)} {w : Nat}
    (f : Ideal .f32 × BitVec w → Ideal .f32 × BitVec w → Ideal .f32 × BitVec w)
    (x : FVec Ideal s .f32) (y : IVec s w) (ix : FVec Ideal u .f32) (iy : IVec u w) (h : s.ReducesTo axes t) (hu : 0 < u.numel)
    (P : BitVec w → Prop) (hf : ∀ a b, P a.2 → P b.2 → P (f a b).2) (hy : ∀ k, P (y k)) (hiy : ∀ k, P (iy k)) (j : t.Idx) :
    P (places f x y ix iy h hu j) := by
  unfold places
  rw [Ideal.argReduce_eq_reduce2, Host.reduce2_eq_foldl_fiber]
  refine foldl_keeps _ (fun p : Ideal .f32 × BitVec w => P p.2) hf _ _ (hiy _) ?_
  intro p hp
  unfold Host.argReduceFiber at hp
  obtain ⟨n, -, rfl⟩ := List.mem_map.1 hp
  exact hy _

/-- One step of the search for the least distance keeps one of the two places. -/
theorem reducer_snd (a b : Ideal .f32 × BitVec 32) (ha : a.2.toNat < 8192) (hb : b.2.toNat < 8192) :
    (reducer_argmin_f32_i32 a b).2.toNat < 8192 := by
  simp only [reducer_argmin_f32_i32, Scalar.select]
  split
  · exact ha
  · exact hb

/-- An array that counts along an axis holds numbers below the axis' extent. -/
theorem iota_toNat_lt (s : Shape) (d : Fin s.rank) (n : Nat) (hs : s.size d ≤ n) (k : s.Idx) : (iotaInDim s 32 d k).toNat < n := by
  have h := (k d).isLt
  unfold iotaInDim
  rw [BitVec.toNat_ofNat]
  exact lt_of_le_of_lt (Nat.mod_le _ _) (lt_of_lt_of_le h hs)

/-- Every code is the number of a codeword. -/
theorem nearest_lt (d : Arr S8192x8192) (j : S8192.Idx) : (nearest d j).toNat < 8192 := by
  have h0 : ∀ k, (constantI S_ 32 0#32 k).toNat < 8192 := fun _ => by
    show (0#32).toNat < 8192
    decide
  unfold nearest
  exact places_keep reducer_argmin_f32_i32 d (iotaInDim S8192x8192 32 1) _ _ _ _ (fun w => w.toNat < 8192) reducer_snd
    (iota_toNat_lt S8192x8192 1 8192 le_rfl) h0 j

/-- A number below the codebook's size is not wrapped. -/
theorem fromEnd_apply (i : Words S8192) (hi : ∀ j, (i j).toNat < 8192) (r : Fin 8192) (z : Fin 1) :
    fromEnd i (ix2 r z) = i (ix1 r) := by
  have h := hi (ix1 r)
  pointwise [fromEnd]
  generalize i (ix1 r) = w at h ⊢
  have hw : w.toInt = (w.toNat : Int) := by rw [BitVec.toInt_eq_toNat_cond]; omega
  have hn : IntOp.cmpi .slt w 0#32 = 0#1 := by
    have : ¬ w.toInt < 0 := by omega
    simp [IntOp.cmpi, BitVec.slt, this]
  rw [hn]
  rfl

/-- A number below the codebook's size lies inside it. -/
theorem inside_eq (i : Words S8192) (hi : ∀ j, (i j).toNat < 8192) (j : S8192.Idx) : inside (fromEnd i) j = 1#1 := by
  unfold inside
  rw [Host.reduce_eq_foldl]
  rw [← List.foldl_map (g := IntOp.andi)]
  refine foldl_keeps _ (fun p : BitVec 1 => p = 1#1) ?_ _ _ rfl ?_
  · rintro _ _ rfl rfl
    rfl
  · intro p hp
    obtain ⟨k, -, rfl⟩ := List.mem_map.1 hp
    obtain ⟨r, z, rfl⟩ : ∃ (r : Fin 8192) (z : Fin 1), k = ix2 r z := ⟨k 0, k 1, eq_ix2 k⟩
    have h := hi (ix1 r)
    have e := fromEnd_apply i hi r z
    pointwise
    rw [e]
    generalize i (ix1 r) = w at h ⊢
    have hw : w.toInt = (w.toNat : Int) := by rw [BitVec.toInt_eq_toNat_cond]; omega
    have h0 : 0 ≤ w.toInt := by omega
    have h1 : w.toInt ≤ 8191 := by omega
    simp [IntOp.cmpi, IntOp.andi, BitVec.sle, h0, h1]

/-- The gather of rows reads, at row `r`, the operand's row that the number at `r` names, clamped into the operand. -/
theorem gather_apply (c : Arr S8192x4) (k : Words S8192x1) (r : Fin 8192) (l : Fin 4) :
    Host.gather gather_S8192x4_S8192x1_S8192x4_1_0_n_n_0_1_14 c k (ix2 r l)
      = c (ix2 ⟨min (k (ix2 r 0)).toInt.toNat 8191, by omega⟩ l) := by
  unfold Host.gather
  congr 1
  funext a
  refine Fin.ext ?_
  set d := gather_S8192x4_S8192x1_S8192x4_1_0_n_n_0_1_14 with hd
  show d.start (ix2 r l) k a + d.batchCoord (ix2 r l) a + d.offCoord (ix2 r l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix2 r l) ⟨List.idxOf (0 : Fin 2) d.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  · unfold GatherDims.start
    rw [dif_neg (show ¬ (1 : Fin 2) ∈ d.startIndexMap from by rw [hd]; decide)]
    unfold GatherDims.offCoord
    rw [dif_pos (show (1 : Fin 2) ∈ d.sKept from (GatherDims.mem_sKept _ _).mpr (by rw [hd]; decide))]
    simp only [Nat.zero_add]
    rfl

/-- Looking up a number below the codebook's size reads that codeword. -/
theorem lookup_apply (c : Arr S8192x4) (i : Words S8192) (hi : ∀ j, (i j).toNat < 8192) (r : Fin 8192) (l : Fin 4) :
    lookup c i (ix2 r l) = c (ix2 ⟨(i (ix1 r)).toNat, hi _⟩ l) := by
  have hin := inside_eq i hi
  have hg := gather_apply c (fromEnd i) r l
  simp only [fromEnd_apply i hi] at hg
  pointwise [lookup]
  rw [hin, hg]
  have h := hi (ix1 r)
  have hw : (i (ix1 r)).toInt = ((i (ix1 r)).toNat : Int) := by rw [BitVec.toInt_eq_toNat_cond]; omega
  refine congrArg (fun k => c (ix2 k l)) (Fin.ext ?_)
  show min (i (ix1 r)).toInt.toNat 8191 = (i (ix1 r)).toNat
  omega

end Cert.Rvq

end
-- ==== Proof.Level.lean ====
module

public import proofs.«01_k».proof.Proof.KBlock
public import proofs.«01_k».proof.Proof.Codes

/-!
The block's lookup is the reference's lookup: for finite codebooks, what the body picks out of the tables at a block's row is
the codeword that the reference reads at the row's place in the whole array.
-/

@[expose] public section

noncomputable section

namespace Cert.KBody

open Idealize.ShloMosaic
open Cert.KernelIdeal Cert.KernelIdeal.Gen
open Cert.Rvq

/-- No entry of the codebooks is infinite. -/
def Finite (cb : Arr S2x8192x4) : Prop := ∀ k, cb k ≠ ⊤ ∧ cb k ≠ ⊥

/-- The first codebook at an entry. -/
theorem book0_apply (cb : Arr S2x8192x4) (n : Fin 8192) (c : Fin 4) : book0 cb (ix2 n c) = cb (ix3 0 n c) := by
  pointwise [book0]

/-- The second codebook at an entry. -/
theorem book1_apply (cb : Arr S2x8192x4) (n : Fin 8192) (c : Fin 4) : book1 cb (ix2 n c) = cb (ix3 1 n c) := by
  pointwise [book1]

/-- The tables' entries at a code's row and lane add up to the codeword's channel. -/
theorem entry_eq (cb : Arr S2x8192x4) (hf : Finite cb) (q : Fin 2) (n : Nat) (hn : n < 8192) (c : Fin 4) :
    KHost.high cb (ix3 q ⟨n % 64, Nat.mod_lt _ (by decide)⟩ ⟨128 * c.val + n / 64, by omega⟩)
        + KHost.low cb (ix3 q ⟨n % 64, Nat.mod_lt _ (by decide)⟩ ⟨128 * c.val + n / 64, by omega⟩)
      = cb (ix3 q ⟨n, hn⟩ c) := by
  rw [high_add_low cb hf, table_apply]
  congr 1
  rw [ix3_inj]
  refine ⟨rfl, Fin.ext ?_, Fin.ext ?_⟩
  · show (128 * c.val + n / 64) % 128 * 64 + n % 64 = n
    omega
  · show (128 * c.val + n / 64) / 128 = c.val
    omega

/-- The first level's pick in a block is the reference's lookup at the row's place. -/
theorem pick0_eq (x : Arr S1x2x4x64x64) (cb : Arr S2x8192x4) (hf : Finite cb) (i : Words S512x1) (r : Fin 512) (R : Fin 8192) (c : Fin 4)
    (hi : i (ix2 r 0) = idx0 x cb (ix1 R)) : pick0 (KHost.high cb) (KHost.low cb) i (ix2 r c) = quant0 x cb (ix2 R c) := by
  have hn : ∀ j, (idx0 x cb j).toNat < 8192 := fun j => nearest_lt _ j
  have hw : (i (ix2 r 0)).toNat < 8192 := by rw [hi]; exact hn _
  rw [pick0_apply _ _ _ _ _ hw, entry_eq cb hf 0 _ hw]
  unfold quant0
  rw [lookup_apply _ _ hn, book0_apply]
  simp only [hi]

/-- The second level's pick in a block is the reference's lookup at the row's place. -/
theorem pick1_eq (x : Arr S1x2x4x64x64) (cb : Arr S2x8192x4) (hf : Finite cb) (i : Words S512x1) (r : Fin 512) (R : Fin 8192) (c : Fin 4)
    (hi : i (ix2 r 0) = idx1 x cb (ix1 R)) : pick1 (KHost.high cb) (KHost.low cb) i (ix2 r c) = quant1 x cb (ix2 R c) := by
  have hn : ∀ j, (idx1 x cb j).toNat < 8192 := fun j => nearest_lt _ j
  have hw : (i (ix2 r 0)).toNat < 8192 := by rw [hi]; exact hn _
  rw [pick1_apply _ _ _ _ _ hw, entry_eq cb hf 1 _ hw]
  unfold quant1
  rw [lookup_apply _ _ hn, book1_apply]
  simp only [hi]

/-- The squared differences of the first level. -/
def sq0 (x : Arr S1x2x4x64x64) (cb : Arr S2x8192x4) : Arr S8192x4 := mulf (subf (quant0 x cb) (flat x)) (subf (quant0 x cb) (flat x))

/-- The squared differences of the second level. -/
def sq1 (x : Arr S1x2x4x64x64) (cb : Arr S2x8192x4) : Arr S8192x4 := mulf (subf (quant1 x cb) (resid x cb)) (subf (quant1 x cb) (resid x cb))

/-- Row `r` of block `t` is row `512·t + r` of the array. -/
def place (t : Fin 16) (r : Fin 512) : Fin 8192 := ⟨t.val * 512 + r.val, by omega⟩

/-- A block's loss part: the sums of both levels' squared differences over the block's rows. -/
def part (x : Arr S1x2x4x64x64) (cb : Arr S2x8192x4) (t : Fin 16) : EReal :=
  (∑ r : Fin 512, ∑ c : Fin 4, sq0 x cb (ix2 (place t r) c)) + ∑ r : Fin 512, ∑ c : Fin 4, sq1 x cb (ix2 (place t r) c)

/-- The loss parts of all blocks. -/
def parts (x : Arr S1x2x4x64x64) (cb : Arr S2x8192x4) : Arr S16x1x1 := fun y => part x cb (y 0)

/-- A block's quantised rows are the block's rows of the reference's. -/
theorem rows_block_eq (x : Arr S1x2x4x64x64) (cb : Arr S2x8192x4) (hf : Finite cb) (b : Arr S512x4) (i k : Words S512x1) (r : Fin 512) (R : Fin 8192)
    (c : Fin 4) (hb : b (ix2 r c) = flat x (ix2 R c)) (hi : i (ix2 r 0) = idx0 x cb (ix1 R)) (hk : k (ix2 r 0) = idx1 x cb (ix1 R)) :
    out0_5 (F := Ideal) b (KHost.high cb) (KHost.low cb) i k (ix2 r c) = rows x cb (ix2 R c) := by
  rw [rows_block, pick0_eq x cb hf i r R c hi, pick1_eq x cb hf k r R c hk, hb]
  pointwise [rows, zeros]

/-- A block's part of the loss is the block's entry of the loss parts. -/
theorem loss_block_eq (x : Arr S1x2x4x64x64) (cb : Arr S2x8192x4) (hf : Finite cb) (b : Arr S512x4) (i k : Words S512x1) (t : Fin 16)
    (hb : ∀ r c, b (ix2 r c) = flat x (ix2 (place t r) c)) (hi : ∀ r, i (ix2 r 0) = idx0 x cb (ix1 (place t r)))
    (hk : ∀ r, k (ix2 r 0) = idx1 x cb (ix1 (place t r))) (y : S1x1x1.Idx) :
    out0_6 (F := Ideal) b (KHost.high cb) (KHost.low cb) i k y = part x cb t := by
  rw [loss_block]
  unfold part
  refine congrArg₂ (fun u v : EReal => u + v) ?_ ?_
  · refine Finset.sum_congr rfl fun r _ => Finset.sum_congr rfl fun c _ => ?_
    rw [pick0_eq x cb hf i r _ c (hi r), hb]
    rfl
  · refine Finset.sum_congr rfl fun r _ => Finset.sum_congr rfl fun c _ => ?_
    rw [pick0_eq x cb hf i r _ c (hi r), pick1_eq x cb hf k r _ c (hk r), hb]
    rfl

end Cert.KBody

end
-- ==== Proof.KArray.lean ====
module

public import proofs.«01_k».proof.Proof.Level
public import Idealize.ShloMosaic.Lib.Pipeline.ValueKit

/-!
What the region's two result arrays hold after the run, for finite codebooks: the reference's quantised rows, and the loss parts
block by block.
-/

@[expose] public section

set_option maxRecDepth 16384

noncomputable section

namespace Cert.KArray

open Idealize.ShloMosaic Idealize.ShloMosaic.TcCoe Idealize.SL.Sem
open Cert.KernelIdeal Cert.KernelIdeal.Gen
open Cert.Rvq Cert.KBody

variable (m : (ℓ : Loc nD τ sig) → Buf (Elt Ideal) ℓ)

/-- The input on device `c`. -/
abbrev xOf (c : Dev nD) : Arr S1x2x4x64x64 := m ((c.tc : Thread nD τ).loc main_arg0)

/-- The codebooks on device `c`. -/
abbrev cbOf (c : Dev nD) : Arr S2x8192x4 := m ((c.tc : Thread nD τ).loc main_arg1)

/-- The point of the grid as a block number. -/
def blockNo (t : Fin cfg0.N) : Fin 16 := ⟨t.val, lt_of_lt_of_eq t.isLt N_0⟩

/-- The block indices of the windows at each point. -/
theorem index_0 : ∀ t : Fin grid0.N, win0_0.index t = ![t.val, 0] := by decide +kernel
theorem index_1 : ∀ t : Fin grid0.N, win0_1.index t = ![0, 0, 0] := by decide +kernel
theorem index_2 : ∀ t : Fin grid0.N, win0_2.index t = ![0, 0, 0] := by decide +kernel
theorem index_3 : ∀ t : Fin grid0.N, win0_3.index t = ![t.val, 0] := by decide +kernel
theorem index_4 : ∀ t : Fin grid0.N, win0_4.index t = ![t.val, 0] := by decide +kernel
theorem index_5 : ∀ t : Fin grid0.N, win0_5.index t = ![t.val, 0] := by decide +kernel
theorem index_6 : ∀ t : Fin grid0.N, win0_6.index t = ![t.val, 0, 0] := by decide +kernel

/-- What the region finds in its arrays. -/
theorem entry (c : Dev nD) :
    V m c main_v42 = flat (xOf m c) ∧ V m c main_v46 = KHost.high (cbOf m c) ∧ V m c main_v49 = KHost.low (cbOf m c)
    ∧ V m c main_v50 = KHost.column (idx0 (xOf m c) (cbOf m c)) ∧ V m c main_v51 = KHost.column (idx1 (xOf m c) (cbOf m c)) := by
  obtain ⟨h42, h46, h49, h50, h51, -, -⟩ := KHost.entry_read (fun b => m (c, b))
  exact ⟨h42, h46, h49, h50, h51⟩

/-- Row `r` of the rows' block at a point, of any array. -/
theorem read_0 (A : Arr S8192x4) (t : Fin cfg0.N) (r : Fin 512) (k : Fin 4) :
    ((cfg0.win 0).blk t).view.read (Elt Ideal) A (ix2 r k) = A (ix2 (place (blockNo t) r) k) := by
  blk_ext [index_0 t, place, blockNo]

/-- The first table's block is the whole table. -/
theorem read_1 (A : FVec Ideal S2x64x512 .bf16) (t : Fin cfg0.N) : ((cfg0.win 1).blk t).view.read (Elt Ideal) A = A := by
  funext y
  blk_ext [index_1 t]

/-- The second table's block is the whole table. -/
theorem read_2 (A : FVec Ideal S2x64x512 .bf16) (t : Fin cfg0.N) : ((cfg0.win 2).blk t).view.read (Elt Ideal) A = A := by
  funext y
  blk_ext [index_2 t]

/-- Row `r` of the first codes' block at a point, of any array. -/
theorem read_3 (A : Words S8192x1) (t : Fin cfg0.N) (r : Fin 512) :
    ((cfg0.win 3).blk t).view.read (Elt Ideal) A (ix2 r 0) = A (ix2 (place (blockNo t) r) 0) := by
  blk_ext [index_3 t, place, blockNo]

/-- Row `r` of the second codes' block at a point, of any array. -/
theorem read_4 (A : Words S8192x1) (t : Fin cfg0.N) (r : Fin 512) :
    ((cfg0.win 4).blk t).view.read (Elt Ideal) A (ix2 r 0) = A (ix2 (place (blockNo t) r) 0) := by
  blk_ext [index_4 t, place, blockNo]

/-- Codes in a column are the codes. -/
theorem column_apply (i : Words S8192) (R : Fin 8192) : KHost.column i (ix2 R 0) = i (ix1 R) := by
  pointwise [KHost.column]

/-- The rows' block at a point holds the input's rows of that block. -/
theorem rows_read (c : Dev nD) (t : Fin cfg0.N) (r : Fin 512) (k : Fin 4) :
    iblk m c 0 t (ix2 r k) = flat (xOf m c) (ix2 (place (blockNo t) r) k) :=
  (read_0 (V m c main_v42) t r k).trans (congrFun (entry m c).1 _)

/-- The narrow table's block is the whole narrow table. -/
theorem high_read (c : Dev nD) (t : Fin cfg0.N) : iblk m c 1 t = KHost.high (cbOf m c) :=
  (read_1 (V m c main_v46) t).trans (entry m c).2.1

/-- The leftover table's block is the whole leftover table. -/
theorem low_read (c : Dev nD) (t : Fin cfg0.N) : iblk m c 2 t = KHost.low (cbOf m c) :=
  (read_2 (V m c main_v49) t).trans (entry m c).2.2.1

/-- The first codes' block at a point holds the reference's first codes of that block. -/
theorem code0_read (c : Dev nD) (t : Fin cfg0.N) (r : Fin 512) :
    iblk m c 3 t (ix2 r 0) = idx0 (xOf m c) (cbOf m c) (ix1 (place (blockNo t) r)) :=
  ((read_3 (V m c main_v50) t r).trans (congrFun (entry m c).2.2.2.1 _)).trans (column_apply _ _)

/-- The second codes' block at a point holds the reference's second codes of that block. -/
theorem code1_read (c : Dev nD) (t : Fin cfg0.N) (r : Fin 512) :
    iblk m c 4 t (ix2 r 0) = idx1 (xOf m c) (cbOf m c) (ix1 (place (blockNo t) r)) :=
  ((read_4 (V m c main_v51) t r).trans (congrFun (entry m c).2.2.2.2 _)).trans (column_apply _ _)

/-- Where the rows' result block at a point lies in the result. -/
theorem emb_5 (t : Fin cfg0.N) (r : Fin 512) (k : Fin 4) : (win0_5.blk t).view.emb (ix2 r k) = ix2 (place (blockNo t) r) k := by
  blk_ext [index_5 t, place, blockNo]

/-- Where the loss parts' result block at a point lies in the result. -/
theorem emb_6 (t : Fin cfg0.N) (y : S1x1x1.Idx) : ((win0_6.blk t).view.emb y : S16x1x1.Idx) = ix3 (blockNo t) 0 0 := by
  blk_ext [index_6 t, blockNo]

/-- After the region the first result holds the reference's quantised rows. -/
theorem rows_array (c : Dev nD) (hf : Finite (cbOf m c)) : (dats m 0 c).arrAt 5 cfg0.N = rows (xOf m c) (cbOf m c) := by
  refine (dats m 0 c).arrAt_eq_of_covers 5 _ (by decide +kernel) fun t ht y => ?_
  rw [after0_5, high_read, low_read]
  blk_simp
  obtain ⟨r, k, rfl⟩ : ∃ (r : Fin 512) (k : Fin 4), y = ix2 r k := ⟨y 0, y 1, eq_ix2 (n0 := 512) (n1 := 4) y⟩
  rw [emb_5]
  exact rows_block_eq _ _ hf _ _ _ r _ k (rows_read m c t r k) (code0_read m c t r) (code1_read m c t r)

/-- After the region the second result holds the loss parts. -/
theorem parts_array (c : Dev nD) (hf : Finite (cbOf m c)) : (dats m 0 c).arrAt 6 cfg0.N = parts (xOf m c) (cbOf m c) := by
  refine (dats m 0 c).arrAt_eq_of_covers 6 _ (by decide +kernel) fun t ht y => ?_
  rw [after0_6, high_read, low_read]
  blk_simp
  rw [emb_6]
  exact loss_block_eq _ _ hf _ _ _ (blockNo t) (rows_read m c t) (code0_read m c t) (code1_read m c t) y

end Cert.KArray

end
-- ==== Proof.LossEq.lean ====
module

public import proofs.«01_k».proof.Proof.Level
public import Idealize.ShloMosaic.Lib.IdealHost

/-!
The kernel's loss is the reference's. The kernel sums both levels' squared differences block by block and scales the sum once;
the reference scales the sums of the two levels apart. Sums of squares are not negative, so the scales distribute over them even
where a sum is infinite.
-/

@[expose] public section

noncomputable section

namespace Cert.Loss

open Idealize.ShloMosaic
open Cert.KernelIdeal Cert.KernelIdeal.Gen
open Cert.Rvq Cert.KBody

/-- The weight of the first term of each level's loss is a quarter. -/
theorem quarter : Ideal.ofBits .f32 0x3E800000#32 = ((1 / 4 : ℝ) : EReal) := by
  simp [Ideal.ofBits, Ideal.ieee, -EReal.coe_mul]
  norm_num

/-- The kernel's one weight is five quarters. -/
theorem five_quarters : Ideal.ofBits .f32 0x3FA00000#32 = ((5 / 4 : ℝ) : EReal) := by
  simp [Ideal.ofBits, Ideal.ieee, -EReal.coe_mul]
  norm_num

/-- Both programs divide by the number of entries, 32768. -/
theorem count : Ideal.ofBits .f32 0x47000000#32 = ((32768 : ℝ) : EReal) := by
  simp [Ideal.ofBits, Ideal.ieee, -EReal.coe_mul]
  norm_num

/-- A square is not negative. -/
theorem square_nonneg (a : EReal) : 0 ≤ a * a :=
  EReal.mul_nonneg_iff.mpr ((le_total 0 a).imp (fun h => ⟨h, h⟩) fun h => ⟨h, h⟩)

/-- The sum of an array over all its places. -/
def total (a : Arr S8192x4) : EReal := ∑ r : Fin 8192, ∑ c : Fin 4, a (ix2 r c)

/-- A sum over the blocks and a block's rows is a sum over all rows. -/
theorem sum_places (f : Fin 8192 → EReal) : (∑ t : Fin 16, ∑ r : Fin 512, f (place t r)) = ∑ R : Fin 8192, f R := by
  have h := Equiv.sum_comp (finProdFinEquiv (m := 16) (n := 512)) f
  rw [Fintype.sum_prod_type] at h
  refine Eq.trans (Finset.sum_congr rfl fun t _ => Finset.sum_congr rfl fun r _ => congrArg f (Fin.ext ?_)) h
  show t.val * 512 + r.val = r.val + 512 * t.val
  omega

/-- A sum of squares is not negative. -/
theorem total_nonneg (a : Arr S8192x4) : 0 ≤ total (mulf a a) :=
  Finset.sum_nonneg fun _ _ => Finset.sum_nonneg fun _ _ => square_nonneg _

/-- The two losses, as functions of the two sums: one scaled sum, and the sums scaled apart. -/
theorem scales (s0 s1 : EReal) (h0 : 0 ≤ s0) (h1 : 0 ≤ s1) :
    Ideal.ofBits .f32 0x3FA00000#32 * Ideal.div (s0 + s1) (Ideal.ofBits .f32 0x47000000#32)
      = Ideal.ofBits .f32 0x3E800000#32 * Ideal.div s0 (Ideal.ofBits .f32 0x47000000#32)
          + Ideal.div s0 (Ideal.ofBits .f32 0x47000000#32)
        + Ideal.ofBits .f32 0x3E800000#32 * Ideal.div s1 (Ideal.ofBits .f32 0x47000000#32)
        + Ideal.div s1 (Ideal.ofBits .f32 0x47000000#32) := by
  rw [quarter, five_quarters, count]
  have hN : ((32768 : ℝ) : EReal) ≠ 0 := by norm_cast
  have hi : (0 : EReal) ≤ ((32768 : ℝ) : EReal)⁻¹ := EReal.inv_nonneg_of_nonneg (by norm_cast)
  have hq : (0 : EReal) ≤ ((1 / 4 : ℝ) : EReal) := by norm_cast; norm_num
  have hp : ((5 / 4 : ℝ) : EReal) = ((1 / 4 : ℝ) : EReal) + 1 := by norm_cast; norm_num
  simp only [Ideal.div, if_neg hN]
  generalize ((32768 : ℝ) : EReal)⁻¹ = n at hi ⊢
  have ha : 0 ≤ s0 * n := mul_nonneg h0 hi
  have hb : 0 ≤ s1 * n := mul_nonneg h1 hi
  rw [EReal.right_distrib_of_nonneg h0 h1, EReal.left_distrib_of_nonneg ha hb, hp,
    EReal.right_distrib_of_nonneg hq zero_le_one, EReal.right_distrib_of_nonneg hq zero_le_one, one_mul, one_mul, add_assoc, add_assoc, add_assoc]

/-- The parts of all blocks sum to the sums of squares of both levels. -/
theorem parts_sum (x : Arr S1x2x4x64x64) (cb : Arr S2x8192x4) :
    (∑ t : Fin 16, part x cb t) = total (sq0 x cb) + total (sq1 x cb) := by
  unfold part total
  rw [Finset.sum_add_distrib]
  rw [sum_places (fun R => ∑ c : Fin 4, sq0 x cb (ix2 R c)), sum_places (fun R => ∑ c : Fin 4, sq1 x cb (ix2 R c))]

/-- The kernel's loss, from the loss parts and any array in its last term, is the reference's. -/
theorem loss_eq (x : Arr S1x2x4x64x64) (cb : Arr S2x8192x4) (q : Arr S8192x4) : KHost.tailLoss (parts x cb) q = loss x cb := by
  have h0 : 0 ≤ total (sq0 x cb) := total_nonneg _
  have h1 : 0 ≤ total (sq1 x cb) := total_nonneg _
  have hs := scales _ _ h0 h1
  have hp : (∑ k0 : Fin 16, ∑ k1 : Fin 1, ∑ k2 : Fin 1, parts x cb (ix3 k0 k1 k2)) = total (sq0 x cb) + total (sq1 x cb) := by
    rw [← parts_sum]
    simp only [Fin.sum_univ_one]
    rfl
  funext j
  pointwise [KHost.tailLoss, loss, addLoss, meanSq, noLoss]
  rw [hp, zero_mul, add_zero]
  exact hs

end Cert.Loss

end
-- ==== Proof.KRun.lean ====
module

public import proofs.«01_k».proof.Proof.KArray
public import proofs.«01_k».proof.Proof.LossEq

/-!
The kernel's run for finite codebooks: every run ends with the reference's three results, the arguments as they were, and every
semaphore counter at zero.
-/

@[expose] public section

set_option maxRecDepth 16384

noncomputable section

namespace Cert.KRun

open Idealize.ShloMosaic Idealize.ShloMosaic.TcCoe Idealize.SL.Sem
open Cert.KernelIdeal Cert.KernelIdeal.Gen
open Cert.Rvq Cert.KBody Cert.KArray

variable (m : (ℓ : Loc nD τ sig) → Buf (Elt Ideal) ℓ)

/-- The contents of device `c`'s arrays when the region has ended. -/
abbrev atExit (c : Dev nD) : KHost.Val := Pipeline.withArrays (cfgs 0).spec c (V0 m c) fun w => (dats m 0 c).arrAt w cfg0.N

/-- The region's arrays are different arrays. -/
theorem arrays_differ : Function.Injective (Pipeline.arrRef spec0) := by decide

/-- When the region has ended its first result holds the reference's quantised rows. -/
theorem exit_rows (c : Dev nD) (hf : Finite (cbOf m c)) :
    atExit m c (Proc.devRef .tc main_v52_0) = rows (xOf m c) (cbOf m c) :=
  (Pipeline.withArrays_arr spec0 arrays_differ c (V0 m c) (fun w => (dats m 0 c).arrAt w cfg0.N) 5).trans (rows_array m c hf)

/-- When the region has ended its second result holds the loss parts. -/
theorem exit_parts (c : Dev nD) (hf : Finite (cbOf m c)) :
    atExit m c (Proc.devRef .tc main_v52_1) = parts (xOf m c) (cbOf m c) :=
  (Pipeline.withArrays_arr spec0 arrays_differ c (V0 m c) (fun w => (dats m 0 c).arrAt w cfg0.N) 6).trans (parts_array m c hf)

/-- The region leaves the first level's codes. -/
theorem exit_codes (c : Dev nD) : atExit m c (Proc.devRef .tc main_v18) = idx0 (xOf m c) (cbOf m c) :=
  (Pipeline.withArrays_of_ne spec0 c (V0 m c) _ main_v18 (by exact (by decide : ∀ w, Pipeline.arrRef spec0 w ≠ main_v18))).trans
    (KHost.entry_read (fun b => m (c, b))).2.2.2.2.2.1

/-- The results after the host operations that follow the region. -/
theorem results (c : Dev nD) (hf : Finite (cbOf m c)) :
    Pipeline.afterTail₀ cfgs (dats m) 0 (V0 m) [hostOps1] c main_v61 = unflat (rows (xOf m c) (cbOf m c))
    ∧ Pipeline.afterTail₀ cfgs (dats m) 0 (V0 m) [hostOps1] c main_v59 = loss (xOf m c) (cbOf m c)
    ∧ Pipeline.afterTail₀ cfgs (dats m) 0 (V0 m) [hostOps1] c main_v62 = codes (idx0 (xOf m c) (cbOf m c)) := by
  obtain ⟨h61, h59, h62⟩ := KHost.tail_read (atExit m c)
  have hops : List.flatten [hostOps1 (F := Ideal)] = hostOps1 := by
    simp only [List.flatten_cons, List.flatten_nil, List.append_nil]
  unfold Pipeline.afterTail₀
  rw [hops]
  refine ⟨h61.trans (congrArg unflat (exit_rows m c hf)), h59.trans ?_, h62.trans (congrArg codes (exit_codes m c))⟩
  rw [exit_parts m c hf]
  exact Cert.Loss.loss_eq _ _ _

/-- The kernel's run for finite codebooks. -/
theorem run (g : Dev nD → PrngReg) (hf : ∀ c, Finite (cbOf m c)) :
    θ_run (defs (F := Ideal)) (onTc (τ := τ) (main (F := Ideal))) ⟨m, fun _ => 0, g⟩ (fun r => ∀ c : Dev nD,
      r.2.mem ((c.tc : Thread nD τ).loc main_v61) = unflat (rows (xOf m c) (cbOf m c))
      ∧ r.2.mem ((c.tc : Thread nD τ).loc main_v59) = loss (xOf m c) (cbOf m c)
      ∧ r.2.mem ((c.tc : Thread nD τ).loc main_v62) = codes (idx0 (xOf m c) (cbOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m g)
  obtain ⟨r61, r59, r62⟩ := results m c (hf c)
  exact ⟨((h c).2 main_v61 (Pipeline.mem_restRefs_of main_v61 (by decide) (by decide))).trans r61,
    ((h c).2 main_v59 (Pipeline.mem_restRefs_of main_v59 (by decide) (by decide))).trans r59,
    ((h c).2 main_v62 (Pipeline.mem_restRefs_of main_v62 (by decide) (by decide))).trans r62,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩

end Cert.KRun

end
-- ==== Proof.RefOps.lean ====
module

public import proofs.«01_k».proof.Defs
public import proofs.«01_k».proof.Proof.Gen.ReferenceIdeal
public import Idealize.ShloMosaic.Adequacy
public import Idealize.ShloMosaic.Init
public import Idealize.ShloMosaic.Lib.StableHlo.RunHlo

/-!
The reference as a list of operations, and its run. The reference is a line of tensor operations with four calls
(two of `argmin`, two of `take`). Each piece between the calls, and each called function, is one list here; the program is
the line of all of them, so that its run leaves in every buffer what the lists leave one after the other.
-/

@[expose] public section

noncomputable section

namespace Cert.Ref

open Idealize.ShloMosaic Idealize.ShloMosaic.TcCoe Idealize.SL.Sem
open Cert.ReferenceIdeal Cert.ReferenceIdeal.Facts₀ Cert.ReferenceIdeal.Facts

variable {F : FTy → Type} [FloatOps F]

/-- The operations of one call of `argmin`. -/
abbrev argminOps (arg0 : StableHlo.TRef sig ⟨S8192x8192, .f32⟩) (φ : fn_argmin.Bufs) : List (HloOp τ sig (Elt F)) :=
  [ StableHlo.TRef.nullary φ.v0 (iotaInDim S8192x8192 32 1),
    StableHlo.TRef.nullary φ.cst (constant S_ .f32 0x7F800000#32),
    StableHlo.TRef.nullary φ.c (constantI S_ 32 0#32),
    StableHlo.TRef.quaternary arg0 φ.v0 φ.cst φ.c φ.v1_0 (fun x y u v j => (Host.argReduce reducer_argmin_f32_i32 x y u v reducesTo_S8192x8192_S8192_d1 h_S_ j).1),
    StableHlo.TRef.quaternary arg0 φ.v0 φ.cst φ.c φ.v1_1 (fun x y u v j => (Host.argReduce reducer_argmin_f32_i32 x y u v reducesTo_S8192x8192_S8192_d1 h_S_ j).2) ]

/-- The operations of one call of `take`. -/
abbrev takeOps (arg0 : StableHlo.TRef sig ⟨S8192x4, .f32⟩) (arg1 : StableHlo.TRef sig ⟨S8192, .i32⟩) (φ : fn_take.Bufs) :
    List (HloOp τ sig (Elt F)) :=
  [ StableHlo.TRef.nullary φ.c (constantI S_ 32 0#32),
    StableHlo.TRef.unary φ.c φ.v0 (broadcastInDim S8192 ![] bcast_S_S8192),
    StableHlo.TRef.binary arg1 φ.v0 φ.v1 (cmpi .slt),
    StableHlo.TRef.nullary φ.c_0 (constantI S_ 32 8192#32),
    StableHlo.TRef.unary φ.c_0 φ.v2 (broadcastInDim S8192 ![] bcast_S_S8192),
    StableHlo.TRef.binary arg1 φ.v2 φ.v3 addi,
    StableHlo.TRef.ternary φ.v1 φ.v3 arg1 φ.call0.v0 select,
    StableHlo.TRef.unary φ.call0.v0 φ.v5 (broadcastInDim S8192x1 ![0] bcast_S8192_S8192x1_0),
    StableHlo.TRef.nullary φ.c_1 (constantI S1 32 8191#32),
    StableHlo.TRef.nullary φ.c_2 (constantI S_ 32 0#32),
    StableHlo.TRef.unary φ.c_2 φ.v6 (broadcastInDim S8192x1 ![] bcast_S_S8192x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S8192x1 ![0, 1] bcast_S1x1_S8192x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S8192x1_S8192_d1 h_S_),
    StableHlo.TRef.binary arg0 φ.v5 φ.v13 (fun x i => Host.gather gather_S8192x4_S8192x1_S8192x4_1_0_n_n_0_1_14 x i),
    StableHlo.TRef.unary φ.v12 φ.v14 (broadcastInDim S8192x4 ![0] bcast_S8192_S8192x4_0),
    StableHlo.TRef.nullary φ.cst (constant S_ .f32 0x7FC00000#32),
    StableHlo.TRef.unary φ.cst φ.v15 (broadcastInDim S8192x4 ![] bcast_S_S8192x4),
    StableHlo.TRef.ternary φ.v14 φ.v13 φ.v15 φ.v16 select ]

/-- The operations before the first call: the two dimensional form of the input, the first codebook and all squared distances. -/
abbrev ops0 : List (HloOp τ sig (Elt F)) :=
  [ StableHlo.unary main_arg0 main_v0 ((transpose S1x2x64x64x4 [0, 1, 3, 4, 2] · transposes_S1x2x4x64x64_S1x2x64x64x4_0_1_3_4_2) : (⟨S1x2x4x64x64, .f32⟩ : BufTy).Contents (Elt F) → (⟨S1x2x64x64x4, .f32⟩ : BufTy).Contents (Elt F)),
    StableHlo.reshape main_v0 main_v1 (rfl : (.f32 : EltTy) = .f32) shapeCasts_S1x2x64x64x4_S8192x4,
    StableHlo.nullary main_cst (constant S_ .f32 0x00000000#32),
    StableHlo.unary main_cst main_v2 (broadcastInDim S8192x4 ![] bcast_S_S8192x4 : (⟨S_, .f32⟩ : BufTy).Contents (Elt F) → (⟨S8192x4, .f32⟩ : BufTy).Contents (Elt F)),
    StableHlo.unary main_arg1 main_v3 ((extractStridedSlice S1x8192x4 ![0, 0, 0] · slices_S2x8192x4_S1x8192x4_0_0_0) : (⟨S2x8192x4, .f32⟩ : BufTy).Contents (Elt F) → (⟨S1x8192x4, .f32⟩ : BufTy).Contents (Elt F)),
    StableHlo.reshape main_v3 main_v4 (rfl : (.f32 : EltTy) = .f32) shapeCasts_S1x8192x4_S8192x4,
    StableHlo.binary main_v1 main_v1 main_v5 (mulf : (⟨S8192x4, .f32⟩ : BufTy).Contents (Elt F) → (⟨S8192x4, .f32⟩ : BufTy).Contents (Elt F) → (⟨S8192x4, .f32⟩ : BufTy).Contents (Elt F)),
    StableHlo.nullary main_cst_0 (constant S_ .f32 0x00000000#32),
    StableHlo.binary main_v5 main_cst_0 main_v6 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    StableHlo.unary main_v6 main_v7 (broadcastInDim S8192x1 ![0] bcast_S8192_S8192x1_0 : (⟨S8192, .f32⟩ : BufTy).Contents (Elt F) → (⟨S8192x1, .f32⟩ : BufTy).Contents (Elt F)),
    StableHlo.nullary main_cst_1 (constant S_ .f32 0x40000000#32),
    StableHlo.unary main_cst_1 main_v8 (broadcastInDim S8192x4 ![] bcast_S_S8192x4 : (⟨S_, .f32⟩ : BufTy).Contents (Elt F) → (⟨S8192x4, .f32⟩ : BufTy).Contents (Elt F)),
    StableHlo.binary main_v8 main_v1 main_v9 (mulf : (⟨S8192x4, .f32⟩ : BufTy).Contents (Elt F) → (⟨S8192x4, .f32⟩ : BufTy).Contents (Elt F) → (⟨S8192x4, .f32⟩ : BufTy).Contents (Elt F)),
    StableHlo.unary main_v4 main_v10 ((transpose S4x8192 [1, 0] · transposes_S8192x4_S4x8192_1_0) : (⟨S8192x4, .f32⟩ : BufTy).Contents (Elt F) → (⟨S4x8192, .f32⟩ : BufTy).Contents (Elt F)),
    StableHlo.binary main_v9 main_v10 main_v11 ((fun l r => Host.dotGeneral dot_S8192x4_S4x8192_S8192x8192_1_0_0_1_n_n none l r) : (⟨S8192x4, .f32⟩ : BufTy).Contents (Elt F) → (⟨S4x8192, .f32⟩ : BufTy).Contents (Elt F) → (⟨S8192x8192, .f32⟩ : BufTy).Contents (Elt F)),
    StableHlo.unary main_v7 main_v12 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v12 main_v11 main_v13 (subf : (⟨S8192x8192, .f32⟩ : BufTy).Contents (Elt F) → (⟨S8192x8192, .f32⟩ : BufTy).Contents (Elt F) → (⟨S8192x8192, .f32⟩ : BufTy).Contents (Elt F)),
    StableHlo.binary main_v4 main_v4 main_v14 (mulf : (⟨S8192x4, .f32⟩ : BufTy).Contents (Elt F) → (⟨S8192x4, .f32⟩ : BufTy).Contents (Elt F) → (⟨S8192x4, .f32⟩ : BufTy).Contents (Elt F)),
    StableHlo.nullary main_cst_2 (constant S_ .f32 0x00000000#32),
    StableHlo.binary main_v14 main_cst_2 main_v15 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    StableHlo.unary main_v15 main_v16 (broadcastInDim S1x8192 ![1] bcast_S8192_S1x8192_1 : (⟨S8192, .f32⟩ : BufTy).Contents (Elt F) → (⟨S1x8192, .f32⟩ : BufTy).Contents (Elt F)),
    StableHlo.unary main_v16 main_v17 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v13 main_v17 main_v18 (addf : (⟨S8192x8192, .f32⟩ : BufTy).Contents (Elt F) → (⟨S8192x8192, .f32⟩ : BufTy).Contents (Elt F) → (⟨S8192x8192, .f32⟩ : BufTy).Contents (Elt F)) ]

/-- The operations between the calls of the first level and those of the second: the first loss terms, the residual, the second codebook and its distances. -/
abbrev ops1 : List (HloOp τ sig (Elt F)) :=
  [ StableHlo.binary main_v20 main_v1 main_v21 (subf : (⟨S8192x4, .f32⟩ : BufTy).Contents (Elt F) → (⟨S8192x4, .f32⟩ : BufTy).Contents (Elt F) → (⟨S8192x4, .f32⟩ : BufTy).Contents (Elt F)),
    StableHlo.binary main_v21 main_v21 main_v22 (mulf : (⟨S8192x4, .f32⟩ : BufTy).Contents (Elt F) → (⟨S8192x4, .f32⟩ : BufTy).Contents (Elt F) → (⟨S8192x4, .f32⟩ : BufTy).Contents (Elt F)),
    StableHlo.nullary main_cst_3 (constant S_ .f32 0x00000000#32),
    StableHlo.binary main_v22 main_cst_3 main_v23 ((fun x v => Host.reduceAdd x v reducesTo_S8192x4_S_d0_1 h_S_) : (⟨S8192x4, .f32⟩ : BufTy).Contents (Elt F) → (⟨S_, .f32⟩ : BufTy).Contents (Elt F) → (⟨S_, .f32⟩ : BufTy).Contents (Elt F)),
    StableHlo.nullary main_cst_4 (constant S_ .f32 0x47000000#32),
    StableHlo.binary main_v23 main_cst_4 main_v24 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x3E800000#32),
    StableHlo.binary main_cst_5 main_v24 main_v25 (mulf : (⟨S_, .f32⟩ : BufTy).Contents (Elt F) → (⟨S_, .f32⟩ : BufTy).Contents (Elt F) → (⟨S_, .f32⟩ : BufTy).Contents (Elt F)),
    StableHlo.nullary main_cst_6 (constant S_ .f32 0x00000000#32),
    StableHlo.binary main_cst_6 main_v25 main_v26 (addf : (⟨S_, .f32⟩ : BufTy).Contents (Elt F) → (⟨S_, .f32⟩ : BufTy).Contents (Elt F) → (⟨S_, .f32⟩ : BufTy).Contents (Elt F)),
    StableHlo.binary main_v20 main_v1 main_v27 (subf : (⟨S8192x4, .f32⟩ : BufTy).Contents (Elt F) → (⟨S8192x4, .f32⟩ : BufTy).Contents (Elt F) → (⟨S8192x4, .f32⟩ : BufTy).Contents (Elt F)),
    StableHlo.binary main_v27 main_v27 main_v28 (mulf : (⟨S8192x4, .f32⟩ : BufTy).Contents (Elt F) → (⟨S8192x4, .f32⟩ : BufTy).Contents (Elt F) → (⟨S8192x4, .f32⟩ : BufTy).Contents (Elt F)),
    StableHlo.nullary main_cst_7 (constant S_ .f32 0x00000000#32),
    StableHlo.binary main_v28 main_cst_7 main_v29 ((fun x v => Host.reduceAdd x v reducesTo_S8192x4_S_d0_1 h_S_) : (⟨S8192x4, .f32⟩ : BufTy).Contents (Elt F) → (⟨S_, .f32⟩ : BufTy).Contents (Elt F) → (⟨S_, .f32⟩ : BufTy).Contents (Elt F)),
    StableHlo.nullary main_cst_8 (constant S_ .f32 0x47000000#32),
    StableHlo.binary main_v29 main_cst_8 main_v30 (Host.divf : (⟨S_, .f32⟩ : BufTy).Contents (Elt F) → (⟨S_, .f32⟩ : BufTy).Contents (Elt F) → (⟨S_, .f32⟩ : BufTy).Contents (Elt F)),
    StableHlo.binary main_v26 main_v30 main_v31 (addf : (⟨S_, .f32⟩ : BufTy).Contents (Elt F) → (⟨S_, .f32⟩ : BufTy).Contents (Elt F) → (⟨S_, .f32⟩ : BufTy).Contents (Elt F)),
    StableHlo.binary main_v2 main_v20 main_v32 (addf : (⟨S8192x4, .f32⟩ : BufTy).Contents (Elt F) → (⟨S8192x4, .f32⟩ : BufTy).Contents (Elt F) → (⟨S8192x4, .f32⟩ : BufTy).Contents (Elt F)),
    StableHlo.binary main_v1 main_v20 main_v33 (subf : (⟨S8192x4, .f32⟩ : BufTy).Contents (Elt F) → (⟨S8192x4, .f32⟩ : BufTy).Contents (Elt F) → (⟨S8192x4, .f32⟩ : BufTy).Contents (Elt F)),
    StableHlo.unary main_arg1 main_v34 ((extractStridedSlice S1x8192x4 ![1, 0, 0] · slices_S2x8192x4_S1x8192x4_1_0_0) : (⟨S2x8192x4, .f32⟩ : BufTy).Contents (Elt F) → (⟨S1x8192x4, .f32⟩ : BufTy).Contents (Elt F)),
    StableHlo.reshape main_v34 main_v35 (rfl : (.f32 : EltTy) = .f32) shapeCasts_S1x8192x4_S8192x4,
    StableHlo.binary main_v33 main_v33 main_v36 (mulf : (⟨S8192x4, .f32⟩ : BufTy).Contents (Elt F) → (⟨S8192x4, .f32⟩ : BufTy).Contents (Elt F) → (⟨S8192x4, .f32⟩ : BufTy).Contents (Elt F)),
    StableHlo.nullary main_cst_9 (constant S_ .f32 0x00000000#32),
    StableHlo.binary main_v36 main_cst_9 main_v37 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    StableHlo.unary main_v37 main_v38 (broadcastInDim S8192x1 ![0] bcast_S8192_S8192x1_0 : (⟨S8192, .f32⟩ : BufTy).Contents (Elt F) → (⟨S8192x1, .f32⟩ : BufTy).Contents (Elt F)),
    StableHlo.nullary main_cst_10 (constant S_ .f32 0x40000000#32),
    StableHlo.unary main_cst_10 main_v39 (broadcastInDim S8192x4 ![] bcast_S_S8192x4 : (⟨S_, .f32⟩ : BufTy).Contents (Elt F) → (⟨S8192x4, .f32⟩ : BufTy).Contents (Elt F)),
    StableHlo.binary main_v39 main_v33 main_v40 (mulf : (⟨S8192x4, .f32⟩ : BufTy).Contents (Elt F) → (⟨S8192x4, .f32⟩ : BufTy).Contents (Elt F) → (⟨S8192x4, .f32⟩ : BufTy).Contents (Elt F)),
    StableHlo.unary main_v35 main_v41 ((transpose S4x8192 [1, 0] · transposes_S8192x4_S4x8192_1_0) : (⟨S8192x4, .f32⟩ : BufTy).Contents (Elt F) → (⟨S4x8192, .f32⟩ : BufTy).Contents (Elt F)),
    StableHlo.binary main_v40 main_v41 main_v42 ((fun l r => Host.dotGeneral dot_S8192x4_S4x8192_S8192x8192_1_0_0_1_n_n none l r) : (⟨S8192x4, .f32⟩ : BufTy).Contents (Elt F) → (⟨S4x8192, .f32⟩ : BufTy).Contents (Elt F) → (⟨S8192x8192, .f32⟩ : BufTy).Contents (Elt F)),
    StableHlo.unary main_v38 main_v43 (broadcastInDim S8192x8192 ![0, 1] bcast_S8192x1_S8192x8192_0_1 : (⟨S8192x1, .f32⟩ : BufTy).Contents (Elt F) → (⟨S8192x8192, .f32⟩ : BufTy).Contents (Elt F)),
    StableHlo.binary main_v43 main_v42 main_v44 (subf : (⟨S8192x8192, .f32⟩ : BufTy).Contents (Elt F) → (⟨S8192x8192, .f32⟩ : BufTy).Contents (Elt F) → (⟨S8192x8192, .f32⟩ : BufTy).Contents (Elt F)),
    StableHlo.binary main_v35 main_v35 main_v45 (mulf : (⟨S8192x4, .f32⟩ : BufTy).Contents (Elt F) → (⟨S8192x4, .f32⟩ : BufTy).Contents (Elt F) → (⟨S8192x4, .f32⟩ : BufTy).Contents (Elt F)),
    StableHlo.nullary main_cst_11 (constant S_ .f32 0x00000000#32),
    StableHlo.binary main_v45 main_cst_11 main_v46 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    StableHlo.unary main_v46 main_v47 (broadcastInDim S1x8192 ![1] bcast_S8192_S1x8192_1 : (⟨S8192, .f32⟩ : BufTy).Contents (Elt F) → (⟨S1x8192, .f32⟩ : BufTy).Contents (Elt F)),
    StableHlo.unary main_v47 main_v48 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v44 main_v48 main_v49 (addf : (⟨S8192x8192, .f32⟩ : BufTy).Contents (Elt F) → (⟨S8192x8192, .f32⟩ : BufTy).Contents (Elt F) → (⟨S8192x8192, .f32⟩ : BufTy).Contents (Elt F)) ]

/-- The operations after the last call: the loss of the second level, the quantised output and the codes. -/
abbrev ops2 : List (HloOp τ sig (Elt F)) :=
  [ StableHlo.binary main_v51 main_v33 main_v52 (subf : (⟨S8192x4, .f32⟩ : BufTy).Contents (Elt F) → (⟨S8192x4, .f32⟩ : BufTy).Contents (Elt F) → (⟨S8192x4, .f32⟩ : BufTy).Contents (Elt F)),
    StableHlo.binary main_v52 main_v52 main_v53 (mulf : (⟨S8192x4, .f32⟩ : BufTy).Contents (Elt F) → (⟨S8192x4, .f32⟩ : BufTy).Contents (Elt F) → (⟨S8192x4, .f32⟩ : BufTy).Contents (Elt F)),
    StableHlo.nullary main_cst_12 (constant S_ .f32 0x00000000#32),
    StableHlo.binary main_v53 main_cst_12 main_v54 ((fun x v => Host.reduceAdd x v reducesTo_S8192x4_S_d0_1 h_S_) : (⟨S8192x4, .f32⟩ : BufTy).Contents (Elt F) → (⟨S_, .f32⟩ : BufTy).Contents (Elt F) → (⟨S_, .f32⟩ : BufTy).Contents (Elt F)),
    StableHlo.nullary main_cst_13 (constant S_ .f32 0x47000000#32),
    StableHlo.binary main_v54 main_cst_13 main_v55 (Host.divf : (⟨S_, .f32⟩ : BufTy).Contents (Elt F) → (⟨S_, .f32⟩ : BufTy).Contents (Elt F) → (⟨S_, .f32⟩ : BufTy).Contents (Elt F)),
    StableHlo.nullary main_cst_14 (constant S_ .f32 0x3E800000#32),
    StableHlo.binary main_cst_14 main_v55 main_v56 (mulf : (⟨S_, .f32⟩ : BufTy).Contents (Elt F) → (⟨S_, .f32⟩ : BufTy).Contents (Elt F) → (⟨S_, .f32⟩ : BufTy).Contents (Elt F)),
    StableHlo.binary main_v31 main_v56 main_v57 (addf : (⟨S_, .f32⟩ : BufTy).Contents (Elt F) → (⟨S_, .f32⟩ : BufTy).Contents (Elt F) → (⟨S_, .f32⟩ : BufTy).Contents (Elt F)),
    StableHlo.binary main_v51 main_v33 main_v58 (subf : (⟨S8192x4, .f32⟩ : BufTy).Contents (Elt F) → (⟨S8192x4, .f32⟩ : BufTy).Contents (Elt F) → (⟨S8192x4, .f32⟩ : BufTy).Contents (Elt F)),
    StableHlo.binary main_v58 main_v58 main_v59 (mulf : (⟨S8192x4, .f32⟩ : BufTy).Contents (Elt F) → (⟨S8192x4, .f32⟩ : BufTy).Contents (Elt F) → (⟨S8192x4, .f32⟩ : BufTy).Contents (Elt F)),
    StableHlo.nullary main_cst_15 (constant S_ .f32 0x00000000#32),
    StableHlo.binary main_v59 main_cst_15 main_v60 ((fun x v => Host.reduceAdd x v reducesTo_S8192x4_S_d0_1 h_S_) : (⟨S8192x4, .f32⟩ : BufTy).Contents (Elt F) → (⟨S_, .f32⟩ : BufTy).Contents (Elt F) → (⟨S_, .f32⟩ : BufTy).Contents (Elt F)),
    StableHlo.nullary main_cst_16 (constant S_ .f32 0x47000000#32),
    StableHlo.binary main_v60 main_cst_16 main_v61 (Host.divf : (⟨S_, .f32⟩ : BufTy).Contents (Elt F) → (⟨S_, .f32⟩ : BufTy).Contents (Elt F) → (⟨S_, .f32⟩ : BufTy).Contents (Elt F)),
    StableHlo.binary main_v57 main_v61 main_v62 (addf : (⟨S_, .f32⟩ : BufTy).Contents (Elt F) → (⟨S_, .f32⟩ : BufTy).Contents (Elt F) → (⟨S_, .f32⟩ : BufTy).Contents (Elt F)),
    StableHlo.binary main_v32 main_v51 main_v63 (addf : (⟨S8192x4, .f32⟩ : BufTy).Contents (Elt F) → (⟨S8192x4, .f32⟩ : BufTy).Contents (Elt F) → (⟨S8192x4, .f32⟩ : BufTy).Contents (Elt F)),
    StableHlo.binary main_v33 main_v51 main_v64 (subf : (⟨S8192x4, .f32⟩ : BufTy).Contents (Elt F) → (⟨S8192x4, .f32⟩ : BufTy).Contents (Elt F) → (⟨S8192x4, .f32⟩ : BufTy).Contents (Elt F)),
    StableHlo.binary main_v63 main_v1 main_v65 (subf : (⟨S8192x4, .f32⟩ : BufTy).Contents (Elt F) → (⟨S8192x4, .f32⟩ : BufTy).Contents (Elt F) → (⟨S8192x4, .f32⟩ : BufTy).Contents (Elt F)),
    StableHlo.binary main_v1 main_v65 main_v66 (addf : (⟨S8192x4, .f32⟩ : BufTy).Contents (Elt F) → (⟨S8192x4, .f32⟩ : BufTy).Contents (Elt F) → (⟨S8192x4, .f32⟩ : BufTy).Contents (Elt F)),
    StableHlo.reshape main_v66 main_v67 (rfl : (.f32 : EltTy) = .f32) shapeCasts_S8192x4_S1x2x64x64x4,
    StableHlo.unary main_v67 main_v68 ((transpose S1x2x4x64x64 [0, 1, 4, 2, 3] · transposes_S1x2x64x64x4_S1x2x4x64x64_0_1_4_2_3) : (⟨S1x2x64x64x4, .f32⟩ : BufTy).Contents (Elt F) → (⟨S1x2x4x64x64, .f32⟩ : BufTy).Contents (Elt F)),
    StableHlo.reshape main_v19 main_v69 (rfl : (.i32 : EltTy) = .i32) shapeCasts_S8192_S1x2x64x64 ]

/-- All operations of the reference, in order. -/
abbrev ops : List (HloOp τ sig (Elt F)) :=
  ops0 ++ (argminOps (.of main_v18) main_call0 ++ (takeOps (.of main_v4) (.of main_v19) main_call1 ++
    (ops1 ++ (argminOps (.of main_v49) main_call2 ++ (takeOps (.of main_v35) (.of main_v50) main_call3 ++ ops2)))))

set_option maxHeartbeats 4000000 in
set_option maxRecDepth 100000 in
/-- The reference is the line of its operations. -/
theorem main_eq (d : Dev nD) : main (F := F) d = StableHlo.seq ops := rfl

end Cert.Ref

end
-- ==== Proof.RefRun.lean ====
module

public import proofs.«01_k».proof.Proof.RefOps
public import proofs.«01_k».proof.Proof.Spec
public import Idealize.ShloMosaic.Lib.Quiescent
public import Idealize.ShloMosaic.Lib.Claim

/-!
What the reference's run leaves: its arguments untouched, every semaphore counter at zero, and its three results as functions
of the arguments. Each piece of the operation list is read once, over whatever was there before it, and the readings are
then put one after the other.
-/

@[expose] public section

noncomputable section

namespace Cert.Ref

open Idealize.ShloMosaic Idealize.ShloMosaic.TcCoe Idealize.SL.Sem
open Cert.ReferenceIdeal Cert.ReferenceIdeal.Facts₀ Cert.ReferenceIdeal.Facts
open Cert.Rvq

/-- Every operation of the reference touches arrays of the main core only. -/
theorem ops_sub : (ops : List (HloOp τ sig (Elt Ideal))).Forall fun op => op.bufs ⊆ StableHlo.tcRefs τ sig := by
  simp

/-- No operation of the reference leaves a result open. -/
theorem ops_fresh : ∀ op ∈ (ops : List (HloOp τ sig (Elt Ideal))), op.fresh = ∅ :=
  List.forall_iff_forall_mem.mp (StableHlo.forall_fresh_of_map rfl)

/-- Contents of all arrays of one device. -/
abbrev Val := Valuation τ sig (Elt Ideal)

/-- After the first piece: the rows, the codebook and the distances of the first level, and the zero array. -/
theorem ops0_read (V : Val) :
    StableHlo.after ops0 V (Proc.devRef .tc main_v1) = flat (V (Proc.devRef .tc main_arg0))
    ∧ StableHlo.after ops0 V (Proc.devRef .tc main_v4) = book0 (V (Proc.devRef .tc main_arg1))
    ∧ StableHlo.after ops0 V (Proc.devRef .tc main_v18) = dist (flat (V (Proc.devRef .tc main_arg0))) (book0 (V (Proc.devRef .tc main_arg1)))
    ∧ StableHlo.after ops0 V (Proc.devRef .tc main_v2) = zeros := by
  refine ⟨?_, ?_, ?_, ?_⟩ <;> after_results_simp <;> rfl

/-- The first search leaves the nearest code of each row. -/
theorem argmin0_read (V : Val) : StableHlo.after (argminOps (.of main_v18) main_call0) V (Proc.devRef .tc main_v19) = nearest (V (Proc.devRef .tc main_v18)) := by
  after_results_simp
  simp only [StableHlo.TRef.ofBuf_toBuf]
  rfl

set_option maxRecDepth 20000 in
/-- The first lookup leaves the codewords of the first codes. -/
theorem take0_read (V : Val) :
    StableHlo.after (takeOps (.of main_v4) (.of main_v19) main_call1) V (Proc.devRef .tc main_v20)
      = lookup (V (Proc.devRef .tc main_v4)) (V (Proc.devRef .tc main_v19)) := by
  after_results_simp
  simp only [StableHlo.TRef.ofBuf_toBuf]
  rfl

/-- The second search leaves the nearest code of each row. -/
theorem argmin1_read (V : Val) : StableHlo.after (argminOps (.of main_v49) main_call2) V (Proc.devRef .tc main_v50) = nearest (V (Proc.devRef .tc main_v49)) := by
  after_results_simp
  simp only [StableHlo.TRef.ofBuf_toBuf]
  rfl

set_option maxRecDepth 20000 in
/-- The second lookup leaves the codewords of the second codes. -/
theorem take1_read (V : Val) :
    StableHlo.after (takeOps (.of main_v35) (.of main_v50) main_call3) V (Proc.devRef .tc main_v51)
      = lookup (V (Proc.devRef .tc main_v35)) (V (Proc.devRef .tc main_v50)) := by
  after_results_simp
  simp only [StableHlo.TRef.ofBuf_toBuf]
  rfl

/-- The operations between the first lookup and the second search. -/
theorem ops1_read (V : Val) :
    StableHlo.after ops1 V (Proc.devRef .tc main_v31)
      = addLoss noLoss (V (Proc.devRef .tc main_v20)) (V (Proc.devRef .tc main_v1))
    ∧ StableHlo.after ops1 V (Proc.devRef .tc main_v32) = addf (F := Ideal) (s := S8192x4) (φ := .f32) (V (Proc.devRef .tc main_v2)) (V (Proc.devRef .tc main_v20))
    ∧ StableHlo.after ops1 V (Proc.devRef .tc main_v33) = subf (F := Ideal) (s := S8192x4) (φ := .f32) (V (Proc.devRef .tc main_v1)) (V (Proc.devRef .tc main_v20))
    ∧ StableHlo.after ops1 V (Proc.devRef .tc main_v35) = book1 (V (Proc.devRef .tc main_arg1))
    ∧ StableHlo.after ops1 V (Proc.devRef .tc main_v49)
      = dist (subf (F := Ideal) (s := S8192x4) (φ := .f32) (V (Proc.devRef .tc main_v1)) (V (Proc.devRef .tc main_v20))) (book1 (V (Proc.devRef .tc main_arg1))) := by
  refine ⟨?_, ?_, ?_, ?_, ?_⟩ <;> after_results_simp <;> rfl

/-- The operations after the second lookup leave the three results. -/
theorem ops2_read (V : Val) :
    StableHlo.after ops2 V (Proc.devRef .tc main_v62)
      = addLoss (V (Proc.devRef .tc main_v31)) (V (Proc.devRef .tc main_v51)) (V (Proc.devRef .tc main_v33))
    ∧ StableHlo.after ops2 V (Proc.devRef .tc main_v68)
      = unflat (addf (F := Ideal) (s := S8192x4) (φ := .f32) (V (Proc.devRef .tc main_v1))
          (subf (F := Ideal) (s := S8192x4) (φ := .f32) (addf (F := Ideal) (s := S8192x4) (φ := .f32) (V (Proc.devRef .tc main_v32)) (V (Proc.devRef .tc main_v51))) (V (Proc.devRef .tc main_v1))))
    ∧ StableHlo.after ops2 V (Proc.devRef .tc main_v69) = codes (V (Proc.devRef .tc main_v19)) := by
  refine ⟨?_, ?_, ?_⟩ <;> after_results_simp <;> rfl

/-- What `argmin`'s and `take`'s operations and the pieces between them leave alone, as far as the readings need it. -/
theorem kept (V : Val) :
    (StableHlo.after ops0 V (Proc.devRef .tc main_arg0) = V (Proc.devRef .tc main_arg0)
      ∧ StableHlo.after ops0 V (Proc.devRef .tc main_arg1) = V (Proc.devRef .tc main_arg1))
    ∧ (∀ r ∈ [main_arg0, main_arg1, main_v1, main_v2, main_v4],
        StableHlo.after (argminOps (.of main_v18) main_call0) V (Proc.devRef .tc r) = V (Proc.devRef .tc r))
    ∧ (∀ r ∈ [main_arg0, main_arg1, main_v1, main_v2, main_v19],
        StableHlo.after (takeOps (.of main_v4) (.of main_v19) main_call1) V (Proc.devRef .tc r) = V (Proc.devRef .tc r))
    ∧ (∀ r ∈ [main_arg0, main_arg1, main_v1, main_v19],
        StableHlo.after ops1 V (Proc.devRef .tc r) = V (Proc.devRef .tc r))
    ∧ (∀ r ∈ [main_arg0, main_arg1, main_v1, main_v19, main_v31, main_v32, main_v33, main_v35],
        StableHlo.after (argminOps (.of main_v49) main_call2) V (Proc.devRef .tc r) = V (Proc.devRef .tc r))
    ∧ (∀ r ∈ [main_arg0, main_arg1, main_v1, main_v19, main_v31, main_v32, main_v33],
        StableHlo.after (takeOps (.of main_v35) (.of main_v50) main_call3) V (Proc.devRef .tc r) = V (Proc.devRef .tc r))
    ∧ (∀ r ∈ [main_arg0, main_arg1], StableHlo.after ops2 V (Proc.devRef .tc r) = V (Proc.devRef .tc r)) := by
  simp only [List.forall_mem_cons, List.not_mem_nil, false_implies, implies_true, and_true]
  refine ⟨⟨?_, ?_⟩, ⟨?_, ?_, ?_, ?_, ?_⟩, ⟨?_, ?_, ?_, ?_, ?_⟩, ⟨?_, ?_, ?_, ?_⟩, ⟨?_, ?_, ?_, ?_, ?_, ?_, ?_, ?_⟩,
    ⟨?_, ?_, ?_, ?_, ?_, ?_, ?_⟩, ?_, ?_⟩ <;> after_results_simp

/-- All operations in order: the three results as functions of the two arguments, which stay. -/
theorem ops_read (V : Val) :
    StableHlo.after ops V (Proc.devRef .tc main_v68) = unflat (rows (V (Proc.devRef .tc main_arg0)) (V (Proc.devRef .tc main_arg1)))
    ∧ StableHlo.after ops V (Proc.devRef .tc main_v62) = loss (V (Proc.devRef .tc main_arg0)) (V (Proc.devRef .tc main_arg1))
    ∧ StableHlo.after ops V (Proc.devRef .tc main_v69) = codes (idx0 (V (Proc.devRef .tc main_arg0)) (V (Proc.devRef .tc main_arg1)))
    ∧ StableHlo.after ops V (Proc.devRef .tc main_arg0) = V (Proc.devRef .tc main_arg0)
    ∧ StableHlo.after ops V (Proc.devRef .tc main_arg1) = V (Proc.devRef .tc main_arg1) := by
  simp only [ops, StableHlo.after_append]
  obtain ⟨h1, h4, h18, h2⟩ := ops0_read V
  obtain ⟨k0, k1⟩ := (kept V).1
  generalize StableHlo.after ops0 V = V1 at *
  have h19 := argmin0_read V1
  have k := (kept V1).2.1
  simp only [List.forall_mem_cons, List.not_mem_nil, false_implies, implies_true, and_true] at k
  obtain ⟨a0, a1, b1, b2, b4⟩ := k
  generalize StableHlo.after (argminOps (.of main_v18) main_call0) V1 = V2 at *
  have h20 := take0_read V2
  have k := (kept V2).2.2.1
  simp only [List.forall_mem_cons, List.not_mem_nil, false_implies, implies_true, and_true] at k
  obtain ⟨c0, c1, d1, d2, d19⟩ := k
  generalize StableHlo.after (takeOps (.of main_v4) (.of main_v19) main_call1) V2 = V3 at *
  obtain ⟨h31, h32, h33, h35, h49⟩ := ops1_read V3
  have k := (kept V3).2.2.2.1
  simp only [List.forall_mem_cons, List.not_mem_nil, false_implies, implies_true, and_true] at k
  obtain ⟨e0, e1, f1, f19⟩ := k
  generalize StableHlo.after ops1 V3 = V4 at *
  have h50 := argmin1_read V4
  have k := (kept V4).2.2.2.2.1
  simp only [List.forall_mem_cons, List.not_mem_nil, false_implies, implies_true, and_true] at k
  obtain ⟨g0, g1, i1, i19, i31, i32, i33, i35⟩ := k
  generalize StableHlo.after (argminOps (.of main_v49) main_call2) V4 = V5 at *
  have h51 := take1_read V5
  have k := (kept V5).2.2.2.2.2.1
  simp only [List.forall_mem_cons, List.not_mem_nil, false_implies, implies_true, and_true] at k
  obtain ⟨j0, j1, l1, l19, l31, l32, l33⟩ := k
  generalize StableHlo.after (takeOps (.of main_v35) (.of main_v50) main_call3) V5 = V6 at *
  obtain ⟨h62, h68, h69⟩ := ops2_read V6
  have k := (kept V6).2.2.2.2.2.2
  simp only [List.forall_mem_cons, List.not_mem_nil, false_implies, implies_true, and_true] at k
  obtain ⟨m0, m1⟩ := k
  have r1 : V6 (Proc.devRef .tc main_v1) = flat (V (Proc.devRef .tc main_arg0)) := by rw [l1, i1, f1, d1, b1, h1]
  have r19 : V6 (Proc.devRef .tc main_v19) = idx0 (V (Proc.devRef .tc main_arg0)) (V (Proc.devRef .tc main_arg1)) := by
    rw [l19, i19, f19, d19, h19, h18]; rfl
  have r20 : V3 (Proc.devRef .tc main_v20) = quant0 (V (Proc.devRef .tc main_arg0)) (V (Proc.devRef .tc main_arg1)) := by
    rw [h20, b4, h4, h19, h18]; rfl
  have s1 : V3 (Proc.devRef .tc main_v1) = flat (V (Proc.devRef .tc main_arg0)) := by rw [d1, b1, h1]
  have sa : V3 (Proc.devRef .tc main_arg1) = V (Proc.devRef .tc main_arg1) := by rw [c1, a1, k1]
  have r33 : V6 (Proc.devRef .tc main_v33) = resid (V (Proc.devRef .tc main_arg0)) (V (Proc.devRef .tc main_arg1)) := by
    rw [l33, i33, h33, s1, r20]; rfl
  have r51 : V6 (Proc.devRef .tc main_v51) = quant1 (V (Proc.devRef .tc main_arg0)) (V (Proc.devRef .tc main_arg1)) := by
    rw [h51, i35, h35, h50, h49, s1, r20, sa]; rfl
  have r31 : V6 (Proc.devRef .tc main_v31) = addLoss noLoss (quant0 (V (Proc.devRef .tc main_arg0)) (V (Proc.devRef .tc main_arg1))) (flat (V (Proc.devRef .tc main_arg0))) := by
    rw [l31, i31, h31, s1, r20]
  have r32 : V6 (Proc.devRef .tc main_v32)
      = addf (F := Ideal) (s := S8192x4) (φ := .f32) zeros (quant0 (V (Proc.devRef .tc main_arg0)) (V (Proc.devRef .tc main_arg1))) := by
    rw [l32, i32, h32, d2, b2, h2, r20]
  refine ⟨?_, ?_, ?_, ?_, ?_⟩
  · rw [h68, r1, r32, r51]; rfl
  · rw [h62, r31, r51, r33]; rfl
  · rw [h69, r19]
  · rw [m0, j0, g0, e0, c0, a0, k0]
  · rw [m1, j1, g1, e1, sa]

/-- The reference's run: its results, its arguments as they were, every semaphore counter at zero. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v68) = unflat (rows (m ((c.tc : Thread nD τ).loc main_arg0)) (m ((c.tc : Thread nD τ).loc main_arg1)))
      ∧ r.2.mem ((c.tc : Thread nD τ).loc main_v62) = loss (m ((c.tc : Thread nD τ).loc main_arg0)) (m ((c.tc : Thread nD τ).loc main_arg1))
      ∧ r.2.mem ((c.tc : Thread nD τ).loc main_v69) = codes (idx0 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (StableHlo.run_seq (by decide) (by decide) defs main (fun _ => ops) main_eq (fun _ => ops_sub) m g (fun _ => ops_fresh))
    fun r hr => ⟨fun c => ?_, sem_eq_zero_of_no_sems rfl _⟩
  obtain ⟨h1, h2, h3, h4, h5⟩ := ops_read (StableHlo.launchContents m c)
  exact ⟨(hr c _).trans h1, (hr c _).trans h2, (hr c _).trans h3, (hr c _).trans h4, (hr c _).trans h5⟩

end Cert.Ref

end
-- ==== Proof.Precond.lean ====
module

public import proofs.«01_k».proof.Pre_finite_codebooks
public import proofs.«01_k».proof.Proof.Level
public import Idealize.ShloMosaic.Lib.IdealHost

/-!
The precondition read as a statement about extended reals: every entry of the codebooks is finite.
-/

@[expose] public section

noncomputable section

namespace Cert.Pre

open Idealize.ShloMosaic
open Cert.KernelIdeal Cert.Rvq Cert.KBody

/-- The precondition's one shape relation holds. -/
theorem facts : Cert.Pre_finite_codebooks.Facts where
  bcast_S_S2x8192x4 := by decide

attribute [local instance] facts

/-- The bound of the precondition is the greatest extended real. -/
theorem bound : Ideal.ofBits .f32 0x7F800000#32 = (⊤ : EReal) := by
  simp [Ideal.ofBits, Ideal.ieee]

/-- A value whose magnitude is below the greatest extended real is finite. -/
theorem finite_of_lt (a : EReal) (h : Ideal.cmp .olt (max a (-a)) (⊤ : EReal) = 1#1) : a ≠ ⊤ ∧ a ≠ ⊥ := by
  constructor <;> rintro rfl <;> simp [Ideal.cmp] at h

/-- The precondition says that the codebooks are finite. -/
theorem finite (x : Arr S1x2x4x64x64) (cb : Arr S2x8192x4)
    (h : Cert.Pre_finite_codebooks.fn (F := Ideal) x cb = fun _ => 1#1) : Finite cb := by
  intro k
  have hk := congrFun h k
  refine finite_of_lt _ ?_
  rw [← bound]
  exact hk

end Cert.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KRun
public import proofs.«01_k».proof.Proof.RefRun
public import proofs.«01_k».proof.Proof.Precond
public import Idealize.ShloMosaic.Adequacy
public import Idealize.ShloMosaic.Init

@[expose] public section

noncomputable section

namespace Cert.Proof

open Idealize.ShloMosaic Idealize.SL.Sem Cert.Kernel

/-- The reference runs, leaves its arguments, and ends with every semaphore counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  θ_run_mono (Cert.Ref.run m g) fun _ h => ⟨fun c => ⟨(h.1 c).2.2.2.1, (h.1 c).2.2.2.2⟩, h.2⟩

/-- Kernel and reference end with the same results for finite codebooks. -/
theorem same_results : Cert.algebraic_KernelIdeal_ReferenceIdeal_pre_finite_codebooks (hKernelIdeal := Cert.KernelIdeal.Gen.facts)
    (hReferenceIdeal := Cert.ReferenceIdeal.Gen.facts) (hPre_finite_codebooks := Cert.Pre.facts) := by
  intro m g m' g' hpre hargs
  refine ⟨_, _, _, Cert.KRun.run m g fun c => Cert.Pre.finite _ _ (hpre c), θ_run_mono (Cert.Ref.run m' g') fun r h c => ?_⟩
  obtain ⟨h68, h62, h69, ha0, ha1⟩ := h.1 c
  rw [(hargs c).1, (hargs c).2] at h68 h62 h69
  exact ⟨h68, h62, h69, ha0, ha1⟩

/-- The certificate's claim: the three frames, the idealization, and the equal results. -/
theorem claim : Cert.Claim :=
  ⟨Cert.Kernel.Gen.facts, Cert.KernelIdeal.Gen.facts, Cert.ReferenceIdeal.Gen.facts, Cert.Pre.facts,
    fun m g _ => Cert.Kernel.Gen.frame m g, fun m g _ => Cert.KernelIdeal.Gen.frame m g, fun m g _ => Cert.KernelIdeal.Gen.frame m g,
    fun m g _ => reference_frame m g, fun m g _ => reference_frame m g, trivial, same_results⟩

end Cert.Proof

end
